-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x7 : Shape := ⟨3, ![1, 512, 7]⟩
abbrev S1x131072x2 : Shape := ⟨3, ![1, 131072, 2]⟩
abbrev S1x131072x1 : Shape := ⟨3, ![1, 131072, 1]⟩
abbrev S1x1x2 : Shape := ⟨3, ![1, 1, 2]⟩
abbrev S131072 : Shape := ⟨1, ![131072]⟩
abbrev S_ : Shape := ⟨0, ![]⟩
abbrev S131072x1 : Shape := ⟨2, ![131072, 1]⟩
abbrev S131072x2 : Shape := ⟨2, ![131072, 2]⟩
abbrev S131072x7 : Shape := ⟨2, ![131072, 7]⟩
abbrev S131072x17 : Shape := ⟨2, ![131072, 17]⟩
abbrev S17x131072 : Shape := ⟨2, ![17, 131072]⟩
abbrev S17x1024x128 : Shape := ⟨3, ![17, 1024, 128]⟩
abbrev S2x131072 : Shape := ⟨2, ![2, 131072]⟩
abbrev S2x1024x128 : Shape := ⟨3, ![2, 1024, 128]⟩
abbrev S1x2 : Shape := ⟨2, ![1, 2]⟩
abbrev S17x128x128 : Shape := ⟨3, ![17, 128, 128]⟩
abbrev S2x128x128 : Shape := ⟨3, ![2, 128, 128]⟩
abbrev S1x128x128 : Shape := ⟨3, ![1, 128, 128]⟩
abbrev S128x128 : Shape := ⟨2, ![128, 128]⟩
abbrev S1x1 : Shape := ⟨2, ![1, 1]⟩
abbrev S1x262144 : Shape := ⟨2, ![1, 262144]⟩

abbrev nBuf : Space → Nat
  | .hbm => 75
  | .vmem => 6
  | .smem => 1
  | _ => 0

abbrev bufTy : (tb : Table) → Fin (tcTables nBuf tb) → BufTy
  | .hbm, ⟨0, _⟩ => ⟨S1x512x7, .f32⟩
  | .hbm, ⟨1, _⟩ => ⟨S1x131072x2, .f32⟩
  | .hbm, ⟨2, _⟩ => ⟨S1x131072x1, .f32⟩
  | .hbm, ⟨3, _⟩ => ⟨S1x131072x2, .f32⟩
  | .hbm, ⟨4, _⟩ => ⟨S1x1x2, .f32⟩
  | .hbm, ⟨5, _⟩ => ⟨S131072, .i32⟩
  | .hbm, ⟨6, _⟩ => ⟨S131072, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072x1, .i32⟩
  | .hbm, ⟨19, _⟩ => ⟨S131072x1, .i32⟩
  | .hbm, ⟨20, _⟩ => ⟨S131072x2, .i32⟩
  | .hbm, ⟨21, _⟩ => ⟨S131072x7, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S131072x1, .i32⟩
  | .hbm, ⟨34, _⟩ => ⟨S131072x2, .i32⟩
  | .hbm, ⟨35, _⟩ => ⟨S131072x7, .f32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072x1, .i32⟩
  | .hbm, ⟨47, _⟩ => ⟨S131072x1, .i32⟩
  | .hbm, ⟨48, _⟩ => ⟨S131072x2, .i32⟩
  | .hbm, ⟨49, _⟩ => ⟨S131072x2, .f32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072x1, .i32⟩
  | .hbm, ⟨61, _⟩ => ⟨S131072x1, .i32⟩
  | .hbm, ⟨62, _⟩ => ⟨S131072x2, .i32⟩
  | .hbm, ⟨63, _⟩ => ⟨S131072x1, .f32⟩
  | .hbm, ⟨64, _⟩ => ⟨S131072x17, .f32⟩
  | .hbm, ⟨65, _⟩ => ⟨S17x131072, .f32⟩
  | .hbm, ⟨66, _⟩ => ⟨S17x1024x128, .f32⟩
  | .hbm, ⟨67, _⟩ => ⟨S131072x2, .f32⟩
  | .hbm, ⟨68, _⟩ => ⟨S2x131072, .f32⟩
  | .hbm, ⟨69, _⟩ => ⟨S2x1024x128, .f32⟩
  | .hbm, ⟨70, _⟩ => ⟨S1x2, .f32⟩
  | .hbm, ⟨71, _⟩ => ⟨S2x1024x128, .f32⟩
  | .hbm, ⟨72, _⟩ => ⟨S2x131072, .f32⟩
  | .hbm, ⟨73, _⟩ => ⟨S131072x2, .f32⟩
  | .hbm, ⟨74, _⟩ => ⟨S1x262144, .f32⟩
  | .local _ .vmem, ⟨0, _⟩ => ⟨S17x128x128, .f32⟩
  | .local _ .vmem, ⟨1, _⟩ => ⟨S17x128x128, .f32⟩
  | .local _ .vmem, ⟨2, _⟩ => ⟨S2x128x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .smem, ⟨0, _⟩ => ⟨S1x2, .f32⟩
  | _, _ => ⟨S1x512x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x512x7 : Shape := ⟨3, ![1, 512, 7]⟩
abbrev S1x131072x2 : Shape := ⟨3, ![1, 131072, 2]⟩
abbrev S1x131072x1 : Shape := ⟨3, ![1, 131072, 1]⟩
abbrev S1x1x2 : Shape := ⟨3, ![1, 1, 2]⟩
abbrev S131072 : Shape := ⟨1, ![131072]⟩
abbrev S1x512x3 : Shape := ⟨3, ![1, 512, 3]⟩
abbrev S1x512x4 : Shape := ⟨3, ![1, 512, 4]⟩
abbrev S_ : Shape := ⟨0, ![]⟩
abbrev S1x512 : Shape := ⟨2, ![1, 512]⟩
abbrev S1x512x1 : Shape := ⟨3, ![1, 512, 1]⟩
abbrev S131072x1 : Shape := ⟨2, ![131072, 1]⟩
abbrev S1x131072x3 : Shape := ⟨3, ![1, 131072, 3]⟩
abbrev S1x131072x7 : Shape := ⟨3, ![1, 131072, 7]⟩
abbrev S131072x7 : Shape := ⟨2, ![131072, 7]⟩
abbrev S131072x3 : Shape := ⟨2, ![131072, 3]⟩
abbrev S131072x4 : Shape := ⟨2, ![131072, 4]⟩
abbrev S1x131072 : Shape := ⟨2, ![1, 131072]⟩
abbrev S3x131072 : Shape := ⟨2, ![3, 131072]⟩
abbrev S1x262144 : Shape := ⟨2, ![1, 262144]⟩

abbrev nBuf : Space → Nat
  | .hbm => 246
  | .vmem => 0
  | .smem => 0
  | _ => 0

abbrev hbmTy0_0 (i : Nat) : BufTy := match i % 128 with
  | 0 => ⟨S1x512x7, .f32⟩
  | 1 => ⟨S1x131072x2, .f32⟩
  | 2 => ⟨S1x131072x1, .f32⟩
  | 3 => ⟨S1x131072x2, .f32⟩
  | 4 => ⟨S1x1x2, .f32⟩
  | 5 => ⟨S131072, .i32⟩
  | 6 => ⟨S131072, .i32⟩
  | 7 => ⟨S131072, .i32⟩
  | 8 => ⟨S1x512x3, .f32⟩
  | 9 => ⟨S1x512x4, .f32⟩
  | 10 => ⟨S1x512x4, .f32⟩
  | 11 => ⟨S_, .f32⟩
  | 12 => ⟨S1x512, .f32⟩
  | 13 => ⟨S1x512x1, .f32⟩
  | 14 => ⟨S1x512x1, .f32⟩
  | 15 => ⟨S_, .f32⟩
  | 16 => ⟨S1x512x1, .f32⟩
  | 17 => ⟨S1x512x1, .f32⟩
  | 18 => ⟨S1x512x4, .f32⟩
  | 19 => ⟨S1x512x4, .f32⟩
  | 20 => ⟨S1x512x7, .f32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S1x131072x2, .f32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S1x131072x1, .f32⟩
  | 39 => ⟨S1x131072x3, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S1x131072x7, .f32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S131072x1, .i32⟩
  | 57 => ⟨S1x131072x7, .f32⟩
  | 58 => ⟨S131072x7, .f32⟩
  | 59 => ⟨S131072x7, .f32⟩
  | 60 => ⟨S131072x3, .f32⟩
  | 61 => ⟨S131072x1, .f32⟩
  | 62 => ⟨S131072, .f32⟩
  | 63 => ⟨S131072x1, .f32⟩
  | 64 => ⟨S131072, .f32⟩
  | 65 => ⟨S131072x1, .f32⟩
  | 66 => ⟨S131072, .f32⟩
  | 67 => ⟨S131072, .f32⟩
  | 68 => ⟨S131072, .f32⟩
  | 69 => ⟨S131072, .f32⟩
  | 70 => ⟨S131072, .f32⟩
  | 71 => ⟨S131072, .f32⟩
  | 72 => ⟨S131072, .f32⟩
  | 73 => ⟨S131072, .f32⟩
  | 74 => ⟨S131072, .f32⟩
  | 75 => ⟨S131072, .f32⟩
  | 76 => ⟨S131072x1, .f32⟩
  | 77 => ⟨S131072x1, .f32⟩
  | 78 => ⟨S131072x1, .f32⟩
  | 79 => ⟨S131072x3, .f32⟩
  | 80 => ⟨S131072x4, .f32⟩
  | 81 => ⟨S131072x3, .f32⟩
  | 82 => ⟨S131072x1, .f32⟩
  | 83 => ⟨S131072x1, .f32⟩
  | 84 => ⟨S131072, .f32⟩
  | 85 => ⟨S131072x1, .f32⟩
  | 86 => ⟨S131072, .f32⟩
  | 87 => ⟨S131072x1, .f32⟩
  | 88 => ⟨S131072, .f32⟩
  | 89 => ⟨S131072x1, .f32⟩
  | 90 => ⟨S131072, .f32⟩
  | 91 => ⟨S131072x1, .f32⟩
  | 92 => ⟨S131072, .f32⟩
  | 93 => ⟨S131072x1, .f32⟩
  | 94 => ⟨S131072, .f32⟩
  | 95 => ⟨S131072, .f32⟩
  | 96 => ⟨S131072, .f32⟩
  | 97 => ⟨S131072, .f32⟩
  | 98 => ⟨S131072, .f32⟩
  | 99 => ⟨S131072, .f32⟩
  | 100 => ⟨S131072, .f32⟩
  | 101 => ⟨S131072, .f32⟩
  | 102 => ⟨S131072, .f32⟩
  | 103 => ⟨S131072, .f32⟩
  | 104 => ⟨S1x131072, .f32⟩
  | 105 => ⟨S1x131072, .f32⟩
  | 106 => ⟨S1x131072, .f32⟩
  | 107 => ⟨S3x131072, .f32⟩
  | 108 => ⟨S131072x3, .f32⟩
  | 109 => ⟨S_, .f32⟩
  | 110 => ⟨S131072x3, .f32⟩
  | 111 => ⟨S131072x3, .f32⟩
  | 112 => ⟨S131072x3, .f32⟩
  | 113 => ⟨S131072x3, .f32⟩
  | 114 => ⟨S131072x3, .f32⟩
  | 115 => ⟨S131072x1, .f32⟩
  | 116 => ⟨S131072, .f32⟩
  | 117 => ⟨S131072x1, .f32⟩
  | 118 => ⟨S131072, .f32⟩
  | 119 => ⟨S131072x1, .f32⟩
  | 120 => ⟨S131072, .f32⟩
  | 121 => ⟨S131072x1, .f32⟩
  | 122 => ⟨S131072, .f32⟩
  | 123 => ⟨S131072x1, .f32⟩
  | 124 => ⟨S131072, .f32⟩
  | 125 => ⟨S131072x1, .f32⟩
  | 126 => ⟨S131072, .f32⟩
  | 127 => ⟨S131072, .f32⟩
  | _ => ⟨S1x512x7, .f32⟩

abbrev hbmTy0_1 (i : Nat) : BufTy := match i % 128 with
  | 0 => ⟨S131072, .f32⟩
  | 1 => ⟨S131072, .f32⟩
  | 2 => ⟨S131072, .f32⟩
  | 3 => ⟨S131072, .f32⟩
  | 4 => ⟨S131072, .f32⟩
  | 5 => ⟨S131072, .f32⟩
  | 6 => ⟨S131072, .f32⟩
  | 7 => ⟨S131072, .f32⟩
  | 8 => ⟨S1x131072, .f32⟩
  | 9 => ⟨S1x131072, .f32⟩
  | 10 => ⟨S1x131072, .f32⟩
  | 11 => ⟨S3x131072, .f32⟩
  | 12 => ⟨S131072x3, .f32⟩
  | 13 => ⟨S131072x3, .f32⟩
  | 14 => ⟨S131072x3, .f32⟩
  | 15 => ⟨S131072x3, .f32⟩
  | 16 => ⟨S131072x4, .f32⟩
  | 17 => ⟨S131072x3, .f32⟩
  | 18 => ⟨S131072x3, .f32⟩
  | 19 => ⟨S131072x1, .f32⟩
  | 20 => ⟨S131072x4, .f32⟩
  | 21 => ⟨S131072x3, .f32⟩
  | 22 => ⟨S131072x3, .f32⟩
  | 23 => ⟨S131072x3, .f32⟩
  | 24 => ⟨S131072x1, .f32⟩
  | 25 => ⟨S131072x1, .f32⟩
  | 26 => ⟨S131072, .f32⟩
  | 27 => ⟨S131072x1, .f32⟩
  | 28 => ⟨S131072, .f32⟩
  | 29 => ⟨S131072x1, .f32⟩
  | 30 => ⟨S131072, .f32⟩
  | 31 => ⟨S131072x1, .f32⟩
  | 32 => ⟨S131072, .f32⟩
  | 33 => ⟨S131072x1, .f32⟩
  | 34 => ⟨S131072, .f32⟩
  | 35 => ⟨S131072x1, .f32⟩
  | 36 => ⟨S131072, .f32⟩
  | 37 => ⟨S131072, .f32⟩
  | 38 => ⟨S131072, .f32⟩
  | 39 => ⟨S131072, .f32⟩
  | 40 => ⟨S131072, .f32⟩
  | 41 => ⟨S131072, .f32⟩
  | 42 => ⟨S131072, .f32⟩
  | 43 => ⟨S131072, .f32⟩
  | 44 => ⟨S131072, .f32⟩
  | 45 => ⟨S131072, .f32⟩
  | 46 => ⟨S1x131072, .f32⟩
  | 47 => ⟨S1x131072, .f32⟩
  | 48 => ⟨S1x131072, .f32⟩
  | 49 => ⟨S3x131072, .f32⟩
  | 50 => ⟨S131072x3, .f32⟩
  | 51 => ⟨S_, .f32⟩
  | 52 => ⟨S131072x3, .f32⟩
  | 53 => ⟨S131072x3, .f32⟩
  | 54 => ⟨S131072x3, .f32⟩
  | 55 => ⟨S131072x3, .f32⟩
  | 56 => ⟨S131072x3, .f32⟩
  | 57 => ⟨S131072x1, .f32⟩
  | 58 => ⟨S131072, .f32⟩
  | 59 => ⟨S131072x1, .f32⟩
  | 60 => ⟨S131072, .f32⟩
  | 61 => ⟨S131072x1, .f32⟩
  | 62 => ⟨S131072, .f32⟩
  | 63 => ⟨S131072x1, .f32⟩
  | 64 => ⟨S131072, .f32⟩
  | 65 => ⟨S131072x1, .f32⟩
  | 66 => ⟨S131072, .f32⟩
  | 67 => ⟨S131072x1, .f32⟩
  | 68 => ⟨S131072, .f32⟩
  | 69 => ⟨S131072, .f32⟩
  | 70 => ⟨S131072, .f32⟩
  | 71 => ⟨S131072, .f32⟩
  | 72 => ⟨S131072, .f32⟩
  | 73 => ⟨S131072, .f32⟩
  | 74 => ⟨S131072, .f32⟩
  | 75 => ⟨S131072, .f32⟩
  | 76 => ⟨S131072, .f32⟩
  | 77 => ⟨S131072, .f32⟩
  | 78 => ⟨S1x131072, .f32⟩
  | 79 => ⟨S1x131072, .f32⟩
  | 80 => ⟨S1x131072, .f32⟩
  | 81 => ⟨S3x131072, .f32⟩
  | 82 => ⟨S131072x3, .f32⟩
  | 83 => ⟨S131072x3, .f32⟩
  | 84 => ⟨S131072x3, .f32⟩
  | 85 => ⟨S_, .f32⟩
  | 86 => ⟨S131072, .f32⟩
  | 87 => ⟨S131072, .f32⟩
  | 88 => ⟨S131072x1, .f32⟩
  | 89 => ⟨S131072, .f32⟩
  | 90 => ⟨S131072x1, .f32⟩
  | 91 => ⟨S131072, .f32⟩
  | 92 => ⟨S131072, .f32⟩
  | 93 => ⟨S131072x1, .f32⟩
  | 94 => ⟨S131072, .f32⟩
  | 95 => ⟨S_, .f32⟩
  | 96 => ⟨S131072, .f32⟩
  | 97 => ⟨S131072, .f32⟩
  | 98 => ⟨S131072, .f32⟩
  | 99 => ⟨S_, .f32⟩
  | 100 => ⟨S_, .f32⟩
  | 101 => ⟨S_, .f32⟩
  | 102 => ⟨S131072, .f32⟩
  | 103 => ⟨S131072, .f32⟩
  | 104 => ⟨S_, .f32⟩
  | 105 => ⟨S131072, .f32⟩
  | 106 => ⟨S131072, .f32⟩
  | 107 => ⟨S131072, .f32⟩
  | 108 => ⟨S131072x1, .f32⟩
  | 109 => ⟨S131072x1, .f32⟩
  | 110 => ⟨S131072x1, .f32⟩
  | 111 => ⟨S131072x3, .f32⟩
  | 112 => ⟨S1x131072x3, .f32⟩
  | 113 => ⟨S1x131072x2, .f32⟩
  | 114 => ⟨S1x131072x2, .f32⟩
  | 115 => ⟨S1x131072x2, .f32⟩
  | 116 => ⟨S1x131072x2, .f32⟩
  | 117 => ⟨S1x262144, .f32⟩
  | _ => ⟨S1x512x7, .f32⟩

abbrev hbmTy (i : Nat) : BufTy := match i / 128 with
  | 0 => hbmTy0_0 i
  | 1 => hbmTy0_1 i
  | _ => ⟨S1x512x7, .f32⟩

abbrev bufTy : (tb : Table) → Fin (tcTables nBuf tb) → BufTy
  | .hbm, ⟨i, _⟩ => hbmTy i
  | _, _ => ⟨S1x512x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_v15 : Ref sig .tc := ⟨.hbm, 98, rfl⟩
abbrev main_call1_v16 : Ref sig .tc := ⟨.hbm, 99, rfl⟩
abbrev main_call1_v17 : Ref sig .tc := ⟨.hbm, 100, rfl⟩
abbrev main_call1_v18 : Ref sig .tc := ⟨.hbm, 101, rfl⟩
abbrev main_call1_v19 : Ref sig .tc := ⟨.hbm, 102, rfl⟩
abbrev main_call1_v20 : Ref sig .tc := ⟨.hbm, 103, rfl⟩
abbrev main_call1_v21 : Ref sig .tc := ⟨.hbm, 104, rfl⟩
abbrev main_call1_v22 : Ref sig .tc := ⟨.hbm, 105, rfl⟩
abbrev main_call1_v23 : Ref sig .tc := ⟨.hbm, 106, rfl⟩
abbrev main_call1_v24 : Ref sig .tc := ⟨.hbm, 107, rfl⟩
abbrev main_v62 : Ref sig .tc := ⟨.hbm, 108, rfl⟩
abbrev main_cst_7 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_v15 : Ref sig .tc := ⟨.hbm, 130, rfl⟩
abbrev main_call2_v16 : Ref sig .tc := ⟨.hbm, 131, rfl⟩
abbrev main_call2_v17 : Ref sig .tc := ⟨.hbm, 132, rfl⟩
abbrev main_call2_v18 : Ref sig .tc := ⟨.hbm, 133, rfl⟩
abbrev main_call2_v19 : Ref sig .tc := ⟨.hbm, 134, rfl⟩
abbrev main_call2_v20 : Ref sig .tc := ⟨.hbm, 135, rfl⟩
abbrev main_call2_v21 : Ref sig .tc := ⟨.hbm, 136, rfl⟩
abbrev main_call2_v22 : Ref sig .tc := ⟨.hbm, 137, rfl⟩
abbrev main_call2_v23 : Ref sig .tc := ⟨.hbm, 138, rfl⟩
abbrev main_call2_v24 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_v8 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_v15 : Ref sig .tc := ⟨.hbm, 168, rfl⟩
abbrev main_call3_v16 : Ref sig .tc := ⟨.hbm, 169, rfl⟩
abbrev main_call3_v17 : Ref sig .tc := ⟨.hbm, 170, rfl⟩
abbrev main_call3_v18 : Ref sig .tc := ⟨.hbm, 171, rfl⟩
abbrev main_call3_v19 : Ref sig .tc := ⟨.hbm, 172, rfl⟩
abbrev main_call3_v20 : Ref sig .tc := ⟨.hbm, 173, rfl⟩
abbrev main_call3_v21 : Ref sig .tc := ⟨.hbm, 174, rfl⟩
abbrev main_call3_v22 : Ref sig .tc := ⟨.hbm, 175, rfl⟩
abbrev main_call3_v23 : Ref sig .tc := ⟨.hbm, 176, rfl⟩
abbrev main_call3_v24 : Ref sig .tc := ⟨.hbm, 177, rfl⟩
abbrev main_v81 : Ref sig .tc := ⟨.hbm, 178, rfl⟩
abbrev main_cst_8 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_call4_v5 : Ref sig .tc := ⟨.hbm, 190, rfl⟩
abbrev main_call4_v6 : Ref sig .tc := ⟨.hbm, 191, rfl⟩
abbrev main_call4_v7 : Ref sig .tc := ⟨.hbm, 192, rfl⟩
abbrev main_call4_v8 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_v12 : Ref sig .tc := ⟨.hbm, 197, rfl⟩
abbrev main_call4_v13 : Ref sig .tc := ⟨.hbm, 198, rfl⟩
abbrev main_call4_v14 : Ref sig .tc := ⟨.hbm, 199, rfl⟩
abbrev main_call4_v15 : Ref sig .tc := ⟨.hbm, 200, rfl⟩
abbrev main_call4_v16 : Ref sig .tc := ⟨.hbm, 201, rfl⟩
abbrev main_call4_v17 : Ref sig .tc := ⟨.hbm, 202, rfl⟩
abbrev main_call4_v18 : Ref sig .tc := ⟨.hbm, 203, rfl⟩
abbrev main_call4_v19 : Ref sig .tc := ⟨.hbm, 204, rfl⟩
abbrev main_call4_v20 : Ref sig .tc := ⟨.hbm, 205, rfl⟩
abbrev main_call4_v21 : Ref sig .tc := ⟨.hbm, 206, rfl⟩
abbrev main_call4_v22 : Ref sig .tc := ⟨.hbm, 207, rfl⟩
abbrev main_call4_v23 : Ref sig .tc := ⟨.hbm, 208, rfl⟩
abbrev main_call4_v24 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_cst_9 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_cst_10 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_cst_11 : Ref sig .tc := ⟨.hbm, 227, rfl⟩
abbrev main_cst_12 : Ref sig .tc := ⟨.hbm, 228, rfl⟩
abbrev main_call5_v0 : Ref sig .tc := ⟨.hbm, 229, rfl⟩
abbrev main_call5_v1 : Ref sig .tc := ⟨.hbm, 230, rfl⟩
abbrev main_call5_v2 : Ref sig .tc := ⟨.hbm, 231, rfl⟩
abbrev main_call5_v3 : Ref sig .tc := ⟨.hbm, 232, rfl⟩
abbrev main_call5_v4 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩

abbrev nD : Nat := 1
abbrev τ : Topo := Topo.v7x

variable {F : FTy → Type} [FloatOps F]
-- ==== Proof.Edge.lean ====
module

public import Idealize.ShloMosaic.Lib.Pointwise
public import Idealize.ShloMosaic.Lib.IdealHost

/-!
# One edge of the pose graph, in extended reals

An edge carries a source pose and a target pose (seven numbers each: a translation, then a
quaternion) and a polar point.  Here is what the two programs compute for one edge, as functions of
those numbers, and the proof that they compute the same residual whatever the numbers are —
infinities included.

The programs differ in two places.  The kernel multiplies a quaternion by the reciprocal of its
clamped norm, the reference divides by the clamped norm: the same, the norm being positive.  And the
kernel rotates into the target frame by `d - 2 w (q × d) - q × (-2 (q × d))`, the reference by the
conjugate quaternion, `d + w t + (-q) × t` with `t = 2 ((-q) × d)`.  In the reals these are equal.
In the extended reals they may be *different infinities*, since `-(a - b)` and `-a + b` differ when
`a` and `b` are the same infinity.  So the local points are compared up to `Same`: equal, or both
infinite.  The range squares every coordinate, and `Ideal.atan2` is `⊥` by convention as soon as
either argument is infinite, so both results agree exactly.
-/

@[expose] public section

noncomputable section

open Idealize.ShloMosaic

namespace Cert.Edge

/-! ## The numbers of an edge -/

/-- The smallest norm a quaternion is divided by. -/
abbrev eps : EReal := Ideal.ofBits .f32 0x2B8CBCCC#32
/-- The constant `1`. -/
abbrev one : EReal := Ideal.ofBits .f32 0x3F800000#32
/-- The constant `2`. -/
abbrev two : EReal := Ideal.ofBits .f32 0x40000000#32
/-- The constant `-2`. -/
abbrev negTwo : EReal := Ideal.ofBits .f32 0xC0000000#32

/-- The clamped norm of the quaternion of a pose. -/
def norm (a : Fin 7 → EReal) : EReal :=
  max (Ideal.sqrt (((a 3 * a 3 + a 4 * a 4) + a 5 * a 5) + a 6 * a 6)) eps

/-- The pose with its quaternion multiplied by the reciprocal of its norm. -/
def unitByScale (a : Fin 7 → EReal) : Fin 7 → EReal :=
  ![a 0, a 1, a 2, a 3 * Ideal.div one (norm a), a 4 * Ideal.div one (norm a),
    a 5 * Ideal.div one (norm a), a 6 * Ideal.div one (norm a)]

/-- The pose with its quaternion divided by its norm. -/
def unitByDiv (a : Fin 7 → EReal) : Fin 7 → EReal :=
  ![a 0, a 1, a 2, Ideal.div (a 3) (norm a), Ideal.div (a 4) (norm a),
    Ideal.div (a 5) (norm a), Ideal.div (a 6) (norm a)]

/-- The Cartesian point of range `c 0`, azimuth `c 1` and elevation `c 2`. -/
def ray (c : Fin 3 → EReal) : Fin 3 → EReal :=
  ![c 0 * Ideal.cos (c 2) * Ideal.cos (c 1), c 0 * Ideal.cos (c 2) * Ideal.sin (c 1),
    c 0 * Ideal.sin (c 2)]

/-- First coordinate of `p + w t + q × t`, `t = 2 (q × p)`; the other two by cycling the axes. -/
def turn (x y z w px py pz : EReal) : EReal :=
  px + w * (two * (y * pz - z * py))
    + (y * (two * (x * py - y * px)) - z * (two * (z * px - x * pz)))

/-- First coordinate of `p + w t - q × t`, `t = -2 (q × p)`; the other two by cycling the axes. -/
def turnBack (x y z w px py pz : EReal) : EReal :=
  px + w * (negTwo * (y * pz - z * py))
    - (y * (negTwo * (x * py - y * px)) - z * (negTwo * (z * px - x * pz)))

/-- A point moved by a pose. -/
def world (q : Fin 7 → EReal) (p : Fin 3 → EReal) : Fin 3 → EReal :=
  ![turn (q 3) (q 4) (q 5) (q 6) (p 0) (p 1) (p 2) + q 0,
    turn (q 4) (q 5) (q 3) (q 6) (p 1) (p 2) (p 0) + q 1,
    turn (q 5) (q 3) (q 4) (q 6) (p 2) (p 0) (p 1) + q 2]

/-- A point relative to the translation of a pose. -/
def offset (u : Fin 7 → EReal) (g : Fin 3 → EReal) : Fin 3 → EReal :=
  ![g 0 - u 0, g 1 - u 1, g 2 - u 2]

/-- The inverse rotation as the kernel writes it. -/
def localBySign (u : Fin 7 → EReal) (d : Fin 3 → EReal) : Fin 3 → EReal :=
  ![turnBack (u 3) (u 4) (u 5) (u 6) (d 0) (d 1) (d 2),
    turnBack (u 4) (u 5) (u 3) (u 6) (d 1) (d 2) (d 0),
    turnBack (u 5) (u 3) (u 4) (u 6) (d 2) (d 0) (d 1)]

/-- The inverse rotation as the reference writes it, by the conjugate quaternion. -/
def localByConj (u : Fin 7 → EReal) (d : Fin 3 → EReal) : Fin 3 → EReal :=
  ![turn (-u 3) (-u 4) (-u 5) (u 6) (d 0) (d 1) (d 2),
    turn (-u 4) (-u 5) (-u 3) (u 6) (d 1) (d 2) (d 0),
    turn (-u 5) (-u 3) (-u 4) (u 6) (d 2) (d 0) (d 1)]

/-- The range and the azimuth of a point. -/
def polar (l : Fin 3 → EReal) : Fin 2 → EReal :=
  ![Ideal.sqrt ((l 0 * l 0 + l 1 * l 1) + l 2 * l 2), Ideal.atan2 (l 1) (l 0)]

/-- The residual of one edge as the kernel computes it: source pose `a`, target pose `b`, polar
    point `c`, measured value `o`, scale `s`; entry `k` is the range (0) or the azimuth (1). -/
def residualBySign (a b : Fin 7 → EReal) (c : Fin 3 → EReal) (k : Fin 2) (o s : EReal) : EReal :=
  (polar (localBySign (unitByScale b) (offset (unitByScale b) (world (unitByScale a) (ray c)))) k - o)
    * s

/-- The residual of one edge as the reference computes it. -/
def residualByConj (a b : Fin 7 → EReal) (c : Fin 3 → EReal) (k : Fin 2) (o s : EReal) : EReal :=
  (polar (localByConj (unitByDiv b) (offset (unitByDiv b) (world (unitByDiv a) (ray c)))) k - o) * s

/-! ## Normalising by a product or by a quotient -/

/-- The smallest norm is positive. -/
theorem eps_pos : 0 < eps := by
  unfold eps
  simp [Ideal.ofBits, Ideal.ieee, -EReal.coe_mul]

/-- Multiplying by the reciprocal of a positive number is dividing by it. -/
theorem mul_div_one (x y : EReal) (h : 0 < y) : x * Ideal.div one y = Ideal.div x y := by
  unfold one Ideal.div
  rw [if_neg h.ne', if_neg h.ne', Ideal.ofBits_one_f32, one_mul]

/-- Both programs normalise a pose to the same numbers. -/
theorem unit_eq (a : Fin 7 → EReal) : unitByScale a = unitByDiv a := by
  have h : 0 < norm a := lt_max_of_lt_right eps_pos
  unfold unitByScale unitByDiv
  simp only [mul_div_one _ _ h]

/-! ## Equal, or both infinite -/

/-- An infinite number. -/
def Infinite (a : EReal) : Prop := a = ⊤ ∨ a = ⊥

/-- Equal, or both infinite. -/
def Same (a b : EReal) : Prop := a = b ∨ (Infinite a ∧ Infinite b)

/-- A number is the same as itself. -/
theorem Same.rfl' (a : EReal) : Same a a := Or.inl rfl

/-- Sameness chains. -/
theorem Same.trans {a b c : EReal} (h : Same a b) (h' : Same b c) : Same a c := by
  rcases h with rfl | ⟨ha, hb⟩
  · exact h'
  · rcases h' with rfl | ⟨_, hc⟩
    · exact Or.inr ⟨ha, hb⟩
    · exact Or.inr ⟨ha, hc⟩

/-- An infinite number plus anything is infinite. -/
theorem Infinite.add {a : EReal} (h : Infinite a) (b : EReal) : Infinite (a + b) := by
  rcases h with rfl | rfl
  · induction b <;> simp [Infinite]
  · simp [Infinite]

/-- A negated infinite number is infinite. -/
theorem Infinite.neg {a : EReal} (h : Infinite a) : Infinite (-a) := by
  rcases h with rfl | rfl <;> simp [Infinite]

/-- A nonzero number times an infinite one is infinite. -/
theorem Infinite.mul {a b : EReal} (ha : a ≠ 0) (h : Infinite b) : Infinite (a * b) := by
  rcases lt_or_gt_of_ne ha with h0 | h0 <;> rcases h with rfl | rfl
  · rw [EReal.mul_top_of_neg h0]; exact Or.inr rfl
  · rw [EReal.mul_bot_of_neg h0]; exact Or.inl rfl
  · rw [EReal.mul_top_of_pos h0]; exact Or.inl rfl
  · rw [EReal.mul_bot_of_pos h0]; exact Or.inr rfl

/-- Sums of same numbers are the same. -/
theorem Same.add {a a' b b' : EReal} (h : Same a a') (h' : Same b b') : Same (a + b) (a' + b') := by
  rcases h with rfl | ⟨ha, ha'⟩
  · rcases h' with rfl | ⟨hb, hb'⟩
    · exact Or.inl rfl
    · rw [add_comm a b, add_comm a b']; exact Or.inr ⟨hb.add a, hb'.add a⟩
  · exact Or.inr ⟨ha.add b, ha'.add b'⟩

/-- Products of one number with same numbers are the same. -/
theorem Same.mul (a : EReal) {b b' : EReal} (h : Same b b') : Same (a * b) (a * b') := by
  rcases h with rfl | ⟨hb, hb'⟩
  · exact Or.inl rfl
  · by_cases ha : a = 0
    · subst ha; simp only [zero_mul]; exact Or.inl rfl
    · exact Or.inr ⟨hb.mul ha, hb'.mul ha⟩

/-- Negations of same numbers are the same. -/
theorem Same.neg {a b : EReal} (h : Same a b) : Same (-a) (-b) := by
  rcases h with rfl | ⟨ha, hb⟩
  · exact Or.inl rfl
  · exact Or.inr ⟨ha.neg, hb.neg⟩

/-- Negating a difference, term by term. -/
theorem same_neg_sub (a b : EReal) : Same (-(a - b)) (-a + b) := by
  by_cases ha : Infinite a
  · exact Or.inr ⟨by rw [sub_eq_add_neg]; exact (ha.add _).neg, ha.neg.add _⟩
  · by_cases hb : Infinite b
    · refine Or.inr ⟨?_, by rw [add_comm]; exact hb.add _⟩
      rw [sub_eq_add_neg, add_comm]; exact (hb.neg.add _).neg
    · simp only [Infinite, not_or] at ha hb
      lift a to ℝ using ha
      lift b to ℝ using hb
      left; norm_cast; ring

/-! ## The inverse rotation, both ways -/

/-- The constant `-2` is the negation of the constant `2`. -/
theorem negTwo_eq : negTwo = -two := by
  unfold negTwo two
  simp [Ideal.ofBits, Ideal.ieee, -EReal.coe_mul]

/-- A cross product by a conjugate is the negated cross product. -/
theorem same_cross (y z b c b' c' : EReal) (hb : Same b b') (hc : Same c c') :
    Same (-(y * b - z * c)) (-y * b' - -z * c') := by
  rw [neg_mul, neg_mul, sub_eq_add_neg (-(y * b')), neg_neg]
  exact (same_neg_sub _ _).trans (((hb.mul y).neg).add (hc.mul z))

/-- One coordinate of the scaled cross product, both ways. -/
theorem same_scaled (y z b c : EReal) :
    Same (negTwo * (y * b - z * c)) (two * (-y * b - -z * c)) := by
  rw [negTwo_eq, neg_mul, ← mul_neg]
  exact (same_cross y z b c b c (.rfl' b) (.rfl' c)).mul two

/-- One coordinate of the inverse rotation, both ways. -/
theorem same_turn (x y z w a b c : EReal) :
    Same (turnBack x y z w a b c) (turn (-x) (-y) (-z) w a b c) := by
  unfold turnBack turn
  rw [sub_eq_add_neg (a + _)]
  exact ((Same.rfl' a).add ((same_scaled y z c b).mul w)).add
    (same_cross y z _ _ _ _ (same_scaled x y b a) (same_scaled z x a c))

/-- Every coordinate of the local point, both ways. -/
theorem same_local (u : Fin 7 → EReal) (d : Fin 3 → EReal) (j : Fin 3) :
    Same (localBySign u d j) (localByConj u d j) := by
  fin_cases j <;> exact same_turn _ _ _ _ _ _ _

/-! ## Range and azimuth do not see the sign of an infinity -/

/-- Same numbers have equal squares. -/
theorem Same.sq {a b : EReal} (h : Same a b) : a * a = b * b := by
  rcases h with rfl | ⟨rfl | rfl, rfl | rfl⟩ <;> simp

/-- The azimuth with an infinite second coordinate: `⊥`, the ideal reading's convention. -/
theorem atan2_left {a : EReal} (h : Infinite a) (b : EReal) : Ideal.atan2 a b = ⊥ := by
  rcases h with rfl | rfl <;> induction b <;> rfl

/-- The azimuth with an infinite first coordinate: `⊥`, the ideal reading's convention. -/
theorem atan2_right {b : EReal} (h : Infinite b) (a : EReal) : Ideal.atan2 a b = ⊥ := by
  rcases h with rfl | rfl <;> induction a <;> rfl

/-- The azimuths of same points are equal. -/
theorem Same.atan2 {a a' b b' : EReal} (h : Same a a') (h' : Same b b') :
    Ideal.atan2 a b = Ideal.atan2 a' b' := by
  rcases h with rfl | ⟨ha, ha'⟩
  · rcases h' with rfl | ⟨hb, hb'⟩
    · rfl
    · rw [atan2_right hb, atan2_right hb']
  · rw [atan2_left ha, atan2_left ha']

/-- Range and azimuth of the local point, both ways. -/
theorem polar_eq (u : Fin 7 → EReal) (d : Fin 3 → EReal) :
    polar (localBySign u d) = polar (localByConj u d) := by
  unfold polar
  rw [(same_local u d 0).sq, (same_local u d 1).sq, (same_local u d 2).sq,
    (same_local u d 1).atan2 (same_local u d 0)]

/-- The two programs compute the same residual of every edge. -/
theorem residual_eq (a b : Fin 7 → EReal) (c : Fin 3 → EReal) (k : Fin 2) (o s : EReal) :
    residualBySign a b c k o s = residualByConj a b c k o s := by
  unfold residualBySign residualByConj
  rw [polar_eq, unit_eq, unit_eq]

end Cert.Edge
-- ==== Proof.Lane.lean ====
module

public import proofs.«01_k».proof.Proof.Gen.KernelIdeal.Frame
public import proofs.«01_k».proof.Proof.Edge
public import Idealize.ShloMosaic.Lib.Pipeline.ValueKit

/-!
# The kernel's arithmetic at one lane

The kernel works lane by lane: every operation between its loads and its two stores acts on the
`128 × 128` lanes separately.  Read at one lane, its arithmetic is the residual of one edge.
-/

@[expose] public section

set_option maxRecDepth 16384

noncomputable section

open Idealize.ShloMosaic Idealize.ShloMosaic.TcCoe Idealize.SL.Sem

namespace Cert.KernelBlock

open Cert.KernelIdeal Cert.KernelIdeal.Gen

/-- One value for every lane. -/
abbrev Lanes := FVec Ideal S128x128 .f32

section Steps

variable (v5 v15 v17 v19 v35 v52 v53 v68 v69 v70 v71 v80 v85 v90 v102 v109 v110 : Lanes)
  (s : Ideal .f32) (i : S128x128.Idx)

/-- A lane's local point, first coordinate. -/
theorem local0_at :
    k0_pay48 v5 v15 v17 v19 v52 v53 v68 v69 v70 v71 v80 v85 v90 v102 v109 v110 i
      = Edge.turnBack (v68 i) (v69 i) (v70 i) (v71 i) (k0_pay42 v15 v102 i) (k0_pay43 v17 v109 i)
          (k0_pay44 v5 v19 v52 v53 v80 v85 v90 v110 i) := rfl

/-- A lane's local point, second coordinate. -/
theorem local1_at :
    k0_pay49 v5 v15 v17 v19 v52 v53 v68 v69 v70 v71 v80 v85 v90 v102 v109 v110 i
      = Edge.turnBack (v69 i) (v70 i) (v68 i) (v71 i) (k0_pay43 v17 v109 i)
          (k0_pay44 v5 v19 v52 v53 v80 v85 v90 v110 i) (k0_pay42 v15 v102 i) := rfl

/-- A lane's range residual from its local point. -/
theorem rangeStep_at :
    k0_pay50 v5 v15 v17 v19 v35 s v52 v53 v68 v69 v70 v71 v80 v85 v90 v102 v109 v110 i
      = (Edge.polar ![k0_pay48 v5 v15 v17 v19 v52 v53 v68 v69 v70 v71 v80 v85 v90 v102 v109 v110 i,
            k0_pay49 v5 v15 v17 v19 v52 v53 v68 v69 v70 v71 v80 v85 v90 v102 v109 v110 i,
            Edge.turnBack (v70 i) (v68 i) (v69 i) (v71 i) (k0_pay44 v5 v19 v52 v53 v80 v85 v90 v110 i)
              (k0_pay42 v15 v102 i) (k0_pay43 v17 v109 i)] 0 - v35 i) * s := rfl

/-- A lane's azimuth residual from its local point. -/
theorem azimuthStep_at :
    k0_pay51 v5 v15 v17 v19 v35 s v52 v53 v68 v69 v70 v71 v80 v85 v90 v102 v109 v110 i
      = (Edge.polar ![k0_pay48 v5 v15 v17 v19 v52 v53 v68 v69 v70 v71 v80 v85 v90 v102 v109 v110 i,
            k0_pay49 v5 v15 v17 v19 v52 v53 v68 v69 v70 v71 v80 v85 v90 v102 v109 v110 i,
            Edge.turnBack (v70 i) (v68 i) (v69 i) (v71 i) (k0_pay44 v5 v19 v52 v53 v80 v85 v90 v110 i)
              (k0_pay42 v15 v102 i) (k0_pay43 v17 v109 i)] 1 - v35 i) * s := rfl

end Steps

section Lane

variable (t0 t1 t2 x1 y1 z1 w1 u0 u1 u2 x2 y2 z2 w2 r th ph b : Lanes) (s : Ideal .f32)
  (i : S128x128.Idx)

/-- The source pose of a lane. -/
abbrev src : Fin 7 → EReal := ![t0 i, t1 i, t2 i, x1 i, y1 i, z1 i, w1 i]
/-- The polar point of a lane. -/
abbrev pnt : Fin 3 → EReal := ![r i, th i, ph i]

/-- The local point before the rotation back, first coordinate: a lane's world point minus the
    target's translation. -/
theorem first_at :
    k0_pay42 u0 (k0_pay39 t0 r th ph (k0_pay23 x1 y1 z1 w1) (k0_pay24 x1 y1 z1 w1)
      (k0_pay25 x1 y1 z1 w1) (k0_pay26 x1 y1 z1 w1)) i
      = Edge.world (Edge.unitByScale (src t0 t1 t2 x1 y1 z1 w1 i)) (Edge.ray (pnt r th ph i)) 0 - u0 i := rfl

/-- The same, second coordinate. -/
theorem second_at :
    k0_pay43 u1 (k0_pay40 t1 r th ph (k0_pay23 x1 y1 z1 w1) (k0_pay24 x1 y1 z1 w1)
      (k0_pay25 x1 y1 z1 w1) (k0_pay26 x1 y1 z1 w1)) i
      = Edge.world (Edge.unitByScale (src t0 t1 t2 x1 y1 z1 w1 i)) (Edge.ray (pnt r th ph i)) 1 - u1 i := rfl

/-- The same, third coordinate. -/
theorem third_at :
    k0_pay44 t2 u2 (k0_pay23 x1 y1 z1 w1) (k0_pay24 x1 y1 z1 w1) (k0_pay35 r ph)
      (k0_pay36 r th ph (k0_pay24 x1 y1 z1 w1) (k0_pay25 x1 y1 z1 w1))
      (k0_pay37 r th ph (k0_pay23 x1 y1 z1 w1) (k0_pay25 x1 y1 z1 w1))
      (k0_pay41 r th ph (k0_pay23 x1 y1 z1 w1) (k0_pay24 x1 y1 z1 w1) (k0_pay26 x1 y1 z1 w1)) i
      = Edge.world (Edge.unitByScale (src t0 t1 t2 x1 y1 z1 w1 i)) (Edge.ray (pnt r th ph i)) 2 - u2 i := rfl

/-- The range residual of a lane. -/
theorem range_at :
    k0_pay50 t2 u0 u1 u2 b s (k0_pay23 x1 y1 z1 w1) (k0_pay24 x1 y1 z1 w1)
      (k0_pay28 x2 y2 z2 w2) (k0_pay29 x2 y2 z2 w2) (k0_pay30 x2 y2 z2 w2) (k0_pay31 x2 y2 z2 w2)
      (k0_pay35 r ph)
      (k0_pay36 r th ph (k0_pay24 x1 y1 z1 w1) (k0_pay25 x1 y1 z1 w1))
      (k0_pay37 r th ph (k0_pay23 x1 y1 z1 w1) (k0_pay25 x1 y1 z1 w1))
      (k0_pay39 t0 r th ph (k0_pay23 x1 y1 z1 w1) (k0_pay24 x1 y1 z1 w1)
        (k0_pay25 x1 y1 z1 w1) (k0_pay26 x1 y1 z1 w1))
      (k0_pay40 t1 r th ph (k0_pay23 x1 y1 z1 w1) (k0_pay24 x1 y1 z1 w1)
        (k0_pay25 x1 y1 z1 w1) (k0_pay26 x1 y1 z1 w1))
      (k0_pay41 r th ph (k0_pay23 x1 y1 z1 w1) (k0_pay24 x1 y1 z1 w1) (k0_pay26 x1 y1 z1 w1)) i
      = Edge.residualBySign (src t0 t1 t2 x1 y1 z1 w1 i) (src u0 u1 u2 x2 y2 z2 w2 i)
          (pnt r th ph i) 0 (b i) s := by
  rw [rangeStep_at, local0_at, local1_at, first_at, second_at, third_at]
  rfl

/-- The azimuth residual of a lane. -/
theorem azimuth_at :
    k0_pay51 t2 u0 u1 u2 b s (k0_pay23 x1 y1 z1 w1) (k0_pay24 x1 y1 z1 w1)
      (k0_pay28 x2 y2 z2 w2) (k0_pay29 x2 y2 z2 w2) (k0_pay30 x2 y2 z2 w2) (k0_pay31 x2 y2 z2 w2)
      (k0_pay35 r ph)
      (k0_pay36 r th ph (k0_pay24 x1 y1 z1 w1) (k0_pay25 x1 y1 z1 w1))
      (k0_pay37 r th ph (k0_pay23 x1 y1 z1 w1) (k0_pay25 x1 y1 z1 w1))
      (k0_pay39 t0 r th ph (k0_pay23 x1 y1 z1 w1) (k0_pay24 x1 y1 z1 w1)
        (k0_pay25 x1 y1 z1 w1) (k0_pay26 x1 y1 z1 w1))
      (k0_pay40 t1 r th ph (k0_pay23 x1 y1 z1 w1) (k0_pay24 x1 y1 z1 w1)
        (k0_pay25 x1 y1 z1 w1) (k0_pay26 x1 y1 z1 w1))
      (k0_pay41 r th ph (k0_pay23 x1 y1 z1 w1) (k0_pay24 x1 y1 z1 w1) (k0_pay26 x1 y1 z1 w1)) i
      = Edge.residualBySign (src t0 t1 t2 x1 y1 z1 w1 i) (src u0 u1 u2 x2 y2 z2 w2 i)
          (pnt r th ph i) 1 (b i) s := by
  rw [azimuthStep_at, local0_at, local1_at, first_at, second_at, third_at]
  rfl

end Lane

end Cert.KernelBlock
-- ==== Proof.Block.lean ====
module

public import proofs.«01_k».proof.Proof.Lane

/-!
# What the kernel writes at one grid point
-/

@[expose] public section

set_option maxRecDepth 16384

noncomputable section

open Idealize.ShloMosaic Idealize.ShloMosaic.TcCoe Idealize.SL.Sem

namespace Cert.KernelBlock

open Cert.KernelIdeal Cert.KernelIdeal.Gen

/-- The first store puts a lane's value at that lane. -/
theorem store0_at (v : Lanes) (x : S1x128x128.Idx) : k0_pay1 v x = v (ix2 (x 1) (x 2)) := by
  pointwise [k0_pay1]

/-- The second store puts a lane's value at that lane. -/
theorem store1_at (v : Lanes) (x : S1x128x128.Idx) : k0_pay2 v x = v (ix2 (x 1) (x 2)) := by
  pointwise [k0_pay2]

/-! ## The loads -/

/-- Plane 0 of a block, read at a lane. -/
theorem load0_at (B : Vec Ideal S17x128x128 .f32) (a l : Fin 128) :
    k0_pay3 (View.ld B (Rect.unit ![0, 0, 0] ![1, 128, 128] inb_S17x128x128_S1x128x128_0_0_0)) (ix2 a l)
      = B (ix3 0 a l) := by
  pointwise [k0_pay3]

/-- Plane 1 of a block, read at a lane. -/
theorem load1_at (B : Vec Ideal S17x128x128 .f32) (a l : Fin 128) :
    k0_pay4 (View.ld B (Rect.unit ![1, 0, 0] ![1, 128, 128] inb_S17x128x128_S1x128x128_1_0_0)) (ix2 a l)
      = B (ix3 1 a l) := by
  pointwise [k0_pay4]

/-- Plane 2 of a block, read at a lane. -/
theorem load2_at (B : Vec Ideal S17x128x128 .f32) (a l : Fin 128) :
    k0_pay5 (View.ld B (Rect.unit ![2, 0, 0] ![1, 128, 128] inb_S17x128x128_S1x128x128_2_0_0)) (ix2 a l)
      = B (ix3 2 a l) := by
  pointwise [k0_pay5]

/-- Plane 3 of a block, read at a lane. -/
theorem load3_at (B : Vec Ideal S17x128x128 .f32) (a l : Fin 128) :
    k0_pay6 (View.ld B (Rect.unit ![3, 0, 0] ![1, 128, 128] inb_S17x128x128_S1x128x128_3_0_0)) (ix2 a l)
      = B (ix3 3 a l) := by
  pointwise [k0_pay6]

/-- Plane 4 of a block, read at a lane. -/
theorem load4_at (B : Vec Ideal S17x128x128 .f32) (a l : Fin 128) :
    k0_pay7 (View.ld B (Rect.unit ![4, 0, 0] ![1, 128, 128] inb_S17x128x128_S1x128x128_4_0_0)) (ix2 a l)
      = B (ix3 4 a l) := by
  pointwise [k0_pay7]

/-- Plane 5 of a block, read at a lane. -/
theorem load5_at (B : Vec Ideal S17x128x128 .f32) (a l : Fin 128) :
    k0_pay8 (View.ld B (Rect.unit ![5, 0, 0] ![1, 128, 128] inb_S17x128x128_S1x128x128_5_0_0)) (ix2 a l)
      = B (ix3 5 a l) := by
  pointwise [k0_pay8]

/-- Plane 6 of a block, read at a lane. -/
theorem load6_at (B : Vec Ideal S17x128x128 .f32) (a l : Fin 128) :
    k0_pay9 (View.ld B (Rect.unit ![6, 0, 0] ![1, 128, 128] inb_S17x128x128_S1x128x128_6_0_0)) (ix2 a l)
      = B (ix3 6 a l) := by
  pointwise [k0_pay9]

/-- Plane 7 of a block, read at a lane. -/
theorem load7_at (B : Vec Ideal S17x128x128 .f32) (a l : Fin 128) :
    k0_pay10 (View.ld B (Rect.unit ![7, 0, 0] ![1, 128, 128] inb_S17x128x128_S1x128x128_7_0_0)) (ix2 a l)
      = B (ix3 7 a l) := by
  pointwise [k0_pay10]

/-- Plane 8 of a block, read at a lane. -/
theorem load8_at (B : Vec Ideal S17x128x128 .f32) (a l : Fin 128) :
    k0_pay11 (View.ld B (Rect.unit ![8, 0, 0] ![1, 128, 128] inb_S17x128x128_S1x128x128_8_0_0)) (ix2 a l)
      = B (ix3 8 a l) := by
  pointwise [k0_pay11]

/-- Plane 9 of a block, read at a lane. -/
theorem load9_at (B : Vec Ideal S17x128x128 .f32) (a l : Fin 128) :
    k0_pay12 (View.ld B (Rect.unit ![9, 0, 0] ![1, 128, 128] inb_S17x128x128_S1x128x128_9_0_0)) (ix2 a l)
      = B (ix3 9 a l) := by
  pointwise [k0_pay12]

/-- Plane 10 of a block, read at a lane. -/
theorem load10_at (B : Vec Ideal S17x128x128 .f32) (a l : Fin 128) :
    k0_pay13 (View.ld B (Rect.unit ![10, 0, 0] ![1, 128, 128] inb_S17x128x128_S1x128x128_10_0_0)) (ix2 a l)
      = B (ix3 10 a l) := by
  pointwise [k0_pay13]

/-- Plane 11 of a block, read at a lane. -/
theorem load11_at (B : Vec Ideal S17x128x128 .f32) (a l : Fin 128) :
    k0_pay14 (View.ld B (Rect.unit ![11, 0, 0] ![1, 128, 128] inb_S17x128x128_S1x128x128_11_0_0)) (ix2 a l)
      = B (ix3 11 a l) := by
  pointwise [k0_pay14]

/-- Plane 12 of a block, read at a lane. -/
theorem load12_at (B : Vec Ideal S17x128x128 .f32) (a l : Fin 128) :
    k0_pay15 (View.ld B (Rect.unit ![12, 0, 0] ![1, 128, 128] inb_S17x128x128_S1x128x128_12_0_0)) (ix2 a l)
      = B (ix3 12 a l) := by
  pointwise [k0_pay15]

/-- Plane 13 of a block, read at a lane. -/
theorem load13_at (B : Vec Ideal S17x128x128 .f32) (a l : Fin 128) :
    k0_pay16 (View.ld B (Rect.unit ![13, 0, 0] ![1, 128, 128] inb_S17x128x128_S1x128x128_13_0_0)) (ix2 a l)
      = B (ix3 13 a l) := by
  pointwise [k0_pay16]

/-- Plane 14 of a block, read at a lane. -/
theorem load14_at (B : Vec Ideal S17x128x128 .f32) (a l : Fin 128) :
    k0_pay17 (View.ld B (Rect.unit ![14, 0, 0] ![1, 128, 128] inb_S17x128x128_S1x128x128_14_0_0)) (ix2 a l)
      = B (ix3 14 a l) := by
  pointwise [k0_pay17]

/-- Plane 15 of a block, read at a lane. -/
theorem load15_at (B : Vec Ideal S17x128x128 .f32) (a l : Fin 128) :
    k0_pay18 (View.ld B (Rect.unit ![15, 0, 0] ![1, 128, 128] inb_S17x128x128_S1x128x128_15_0_0)) (ix2 a l)
      = B (ix3 15 a l) := by
  pointwise [k0_pay18]

/-- Plane 16 of a block, read at a lane. -/
theorem load16_at (B : Vec Ideal S17x128x128 .f32) (a l : Fin 128) :
    k0_pay19 (View.ld B (Rect.unit ![16, 0, 0] ![1, 128, 128] inb_S17x128x128_S1x128x128_16_0_0)) (ix2 a l)
      = B (ix3 16 a l) := by
  pointwise [k0_pay19]

/-- Plane 0 of the measurements, read at a lane. -/
theorem measure0_at (B : Vec Ideal S2x128x128 .f32) (a l : Fin 128) :
    k0_pay20 (View.ld B (Rect.unit ![0, 0, 0] ![1, 128, 128] inb_S2x128x128_S1x128x128_0_0_0)) (ix2 a l)
      = B (ix3 0 a l) := by
  pointwise [k0_pay20]

/-- Plane 1 of the measurements, read at a lane. -/
theorem measure1_at (B : Vec Ideal S2x128x128 .f32) (a l : Fin 128) :
    k0_pay21 (View.ld B (Rect.unit ![1, 0, 0] ![1, 128, 128] inb_S2x128x128_S1x128x128_1_0_0)) (ix2 a l)
      = B (ix3 1 a l) := by
  pointwise [k0_pay21]

/-- The source pose of a lane is 7 planes of the block. -/
theorem source_at (B : Vec Ideal S17x128x128 .f32) (a l : Fin 128) :
    src
      (k0_pay3 (View.ld B (Rect.unit ![0, 0, 0] ![1, 128, 128] inb_S17x128x128_S1x128x128_0_0_0)))
      (k0_pay4 (View.ld B (Rect.unit ![1, 0, 0] ![1, 128, 128] inb_S17x128x128_S1x128x128_1_0_0)))
      (k0_pay5 (View.ld B (Rect.unit ![2, 0, 0] ![1, 128, 128] inb_S17x128x128_S1x128x128_2_0_0)))
      (k0_pay6 (View.ld B (Rect.unit ![3, 0, 0] ![1, 128, 128] inb_S17x128x128_S1x128x128_3_0_0)))
      (k0_pay7 (View.ld B (Rect.unit ![4, 0, 0] ![1, 128, 128] inb_S17x128x128_S1x128x128_4_0_0)))
      (k0_pay8 (View.ld B (Rect.unit ![5, 0, 0] ![1, 128, 128] inb_S17x128x128_S1x128x128_5_0_0)))
      (k0_pay9 (View.ld B (Rect.unit ![6, 0, 0] ![1, 128, 128] inb_S17x128x128_S1x128x128_6_0_0)))
      (ix2 a l) = fun j : Fin 7 => B (ix3 ⟨j.val, by omega⟩ a l) := by
  unfold src
  rw [load0_at, load1_at, load2_at, load3_at, load4_at, load5_at, load6_at]
  funext j; fin_cases j <;> rfl

/-- The target pose of a lane is 7 planes of the block. -/
theorem target_at (B : Vec Ideal S17x128x128 .f32) (a l : Fin 128) :
    src
      (k0_pay10 (View.ld B (Rect.unit ![7, 0, 0] ![1, 128, 128] inb_S17x128x128_S1x128x128_7_0_0)))
      (k0_pay11 (View.ld B (Rect.unit ![8, 0, 0] ![1, 128, 128] inb_S17x128x128_S1x128x128_8_0_0)))
      (k0_pay12 (View.ld B (Rect.unit ![9, 0, 0] ![1, 128, 128] inb_S17x128x128_S1x128x128_9_0_0)))
      (k0_pay13 (View.ld B (Rect.unit ![10, 0, 0] ![1, 128, 128] inb_S17x128x128_S1x128x128_10_0_0)))
      (k0_pay14 (View.ld B (Rect.unit ![11, 0, 0] ![1, 128, 128] inb_S17x128x128_S1x128x128_11_0_0)))
      (k0_pay15 (View.ld B (Rect.unit ![12, 0, 0] ![1, 128, 128] inb_S17x128x128_S1x128x128_12_0_0)))
      (k0_pay16 (View.ld B (Rect.unit ![13, 0, 0] ![1, 128, 128] inb_S17x128x128_S1x128x128_13_0_0)))
      (ix2 a l) = fun j : Fin 7 => B (ix3 ⟨7 + j.val, by omega⟩ a l) := by
  unfold src
  rw [load7_at, load8_at, load9_at, load10_at, load11_at, load12_at, load13_at]
  funext j; fin_cases j <;> rfl

/-- The polar point of a lane is 3 planes of the block. -/
theorem polar_at (B : Vec Ideal S17x128x128 .f32) (a l : Fin 128) :
    pnt
      (k0_pay17 (View.ld B (Rect.unit ![14, 0, 0] ![1, 128, 128] inb_S17x128x128_S1x128x128_14_0_0)))
      (k0_pay18 (View.ld B (Rect.unit ![15, 0, 0] ![1, 128, 128] inb_S17x128x128_S1x128x128_15_0_0)))
      (k0_pay19 (View.ld B (Rect.unit ![16, 0, 0] ![1, 128, 128] inb_S17x128x128_S1x128x128_16_0_0)))
      (ix2 a l) = fun j : Fin 3 => B (ix3 ⟨14 + j.val, by omega⟩ a l) := by
  unfold pnt
  rw [load14_at, load15_at, load16_at]
  funext j; fin_cases j <;> rfl

/-- Scale 0 of the block of scales. -/
theorem scale0_at (B : Vec Ideal S1x2 .f32) (h : 0 < S1x1.numel) :
    View.ld B (Rect.unit ![0, 0] ![1, 1] inb_S1x2_S1x1_0_0) (Shape.Idx.first h) = B (ix2 0 0) := by
  pointwise

/-- Scale 1 of the block of scales. -/
theorem scale1_at (B : Vec Ideal S1x2 .f32) (h : 0 < S1x1.numel) :
    View.ld B (Rect.unit ![0, 1] ![1, 1] inb_S1x2_S1x1_0_1) (Shape.Idx.first h) = B (ix2 0 1) := by
  pointwise

/-- Equal inputs have equal residuals. -/
theorem residual_congr {a a' b b' : Fin 7 → EReal} {c c' : Fin 3 → EReal} {k : Fin 2} {o o' s s' : EReal}
    (ha : a = a') (hb : b = b') (hc : c = c') (ho : o = o') (hs : s = s') :
    Edge.residualBySign a b c k o s = Edge.residualBySign a' b' c' k o' s' := by
  rw [ha, hb, hc, ho, hs]

variable (m : (ℓ : Loc nD τ sig) → Buf (Elt Ideal) ℓ)

/-- What a grid point leaves in its output block, read at a lane. -/
theorem block_at (c : Dev nD) (t : Fin cfg0.N) (k : Fin 2) (a l : Fin 128) :
    outsAt0 m c t (ix3 k a l) = Edge.residualBySign (fun j => iblk m c 0 t (ix3 ⟨j.val, by omega⟩ a l))
      (fun j => iblk m c 0 t (ix3 ⟨7 + j.val, by omega⟩ a l))
      (fun j => iblk m c 0 t (ix3 ⟨14 + j.val, by omega⟩ a l)) k
      (iblk m c 1 t (ix3 k a l)) (iblk m c 2 t (ix2 0 k)) := by
  unfold outsAt0
  frame_out
  canon_tiles x h
  case piece0 =>
    refine (store1_at _ x).trans ((azimuth_at _ _ _ _ _ _ _ _ _ _ _ _ _ _ _ _ _ _ _ _).trans ?_)
    obtain rfl : k = 1 := by
      refine Fin.ext ?_
      change k.val = 1 + (x 0).val at h0
      rw [h0, Nat.lt_one_iff.mp x0_lt]; rfl
    obtain rfl : a = x 1 := Fin.ext h1
    obtain rfl : l = x 2 := Fin.ext h2
    exact residual_congr (source_at (iblk m c 0 t) (x 1) (x 2)) (target_at (iblk m c 0 t) (x 1) (x 2))
      (polar_at (iblk m c 0 t) (x 1) (x 2)) (measure1_at (iblk m c 1 t) (x 1) (x 2))
      (scale1_at (iblk m c 2 t) _)
  case piece1 =>
    refine (store0_at _ x).trans ((range_at _ _ _ _ _ _ _ _ _ _ _ _ _ _ _ _ _ _ _ _).trans ?_)
    obtain rfl : k = 0 := by
      refine Fin.ext ?_
      change k.val = (x 0).val at h0
      rw [h0, Nat.lt_one_iff.mp x0_lt]; rfl
    obtain rfl : a = x 1 := Fin.ext h1
    obtain rfl : l = x 2 := Fin.ext h2
    exact residual_congr (source_at (iblk m c 0 t) (x 1) (x 2)) (target_at (iblk m c 0 t) (x 1) (x 2))
      (polar_at (iblk m c 0 t) (x 1) (x 2)) (measure0_at (iblk m c 1 t) (x 1) (x 2))
      (scale0_at (iblk m c 2 t) _)

end Cert.KernelBlock
-- ==== Proof.KernelValue.lean ====
/- What the kernel's region leaves in its output array: the residuals of every edge, plane by plane. -/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Cert.KernelBlock
variable (m : (ℓ : Loc nD τ sig) → Buf (Elt Ideal) ℓ)

/-- Where the windows stand at a grid point. -/
theorem idx : ∀ t : Fin cfg0.N, win0_0.index t = ![0, t.val, 0] ∧ win0_1.index t = ![0, t.val, 0]
    ∧ win0_2.index t = ![0, 0] ∧ win0_3.index t = ![0, t.val, 0] :=
  (by decide +kernel : ∀ t : Fin grid0.N, _)

/-- The residuals as the kernel lays them out: plane, row, lane. -/
def planes (g : S17x1024x128.Idx → EReal) (b : S2x1024x128.Idx → EReal) (s : S1x2.Idx → EReal) : S2x1024x128.Idx → EReal :=
  fun i => Edge.residualBySign (fun j => g (ix3 ⟨j.val, by omega⟩ (i 1) (i 2)))
    (fun j => g (ix3 ⟨7 + j.val, by omega⟩ (i 1) (i 2))) (fun j => g (ix3 ⟨14 + j.val, by omega⟩ (i 1) (i 2)))
    (i 0) (b (ix3 (i 0) (i 1) (i 2))) (s (ix2 0 (i 0)))

/-- Row `a` of a grid point's blocks is a row of the arrays. -/
def arow (t : Fin cfg0.N) (a : Fin 128) : Fin 1024 := ⟨t.val * 128 + a.val, by
  have : t.val < 8 := t.isLt
  omega⟩

/-- The gathered planes' block at a grid point. -/
theorem block0_at (c : Dev nD) (t : Fin cfg0.N) (k : Fin 17) (a l : Fin 128) :
    iblk m c 0 t (ix3 k a l) = V m c main_v46 (ix3 k (arow t a) l) := by
  blk_ext [iblk, idx t, arow]

/-- The measurements' block at a grid point. -/
theorem block1_at (c : Dev nD) (t : Fin cfg0.N) (k : Fin 2) (a l : Fin 128) :
    iblk m c 1 t (ix3 k a l) = V m c main_v49 (ix3 k (arow t a) l) := by
  blk_ext [iblk, idx t, arow]

/-- The scales' block at a grid point. -/
theorem block2_at (c : Dev nD) (t : Fin cfg0.N) (k : Fin 2) :
    iblk m c 2 t (ix2 0 k) = V m c main_v50 (ix2 0 k) := by
  blk_ext [iblk, idx t]

/-- A block's element is the residual at the array element it is written back to. -/
theorem point (c : Dev nD) (t : Fin cfg0.N) (k : Fin 2) (a l : Fin 128) (j : S2x1024x128.Idx) (h0 : (j 0 : ℕ) = k)
    (h1 : (j 1 : ℕ) = t.val * 128 + a) (h2 : (j 2 : ℕ) = l) :
    outsAt0 m c t (ix3 k a l) = planes (V m c main_v46) (V m c main_v49) (V m c main_v50) j := by
  obtain rfl : k = j 0 := Fin.ext h0.symm
  obtain rfl : l = j 2 := Fin.ext h2.symm
  have h : arow t a = j 1 := Fin.ext h1.symm
  unfold planes
  rw [← h]
  exact (block_at m c t (j 0) a (j 2)).trans (residual_congr (funext fun i => block0_at m c t _ a (j 2))
    (funext fun i => block0_at m c t _ a (j 2)) (funext fun i => block0_at m c t _ a (j 2)) (block1_at m c t (j 0) a (j 2)) (block2_at m c t (j 0)))

/-- After the last grid point the output array holds the residual planes. -/
theorem final (c : Dev nD) : (dats m 0 c).arrAt 3 (cfgs 0).N
    = planes (V m c main_v46) (V m c main_v49) (V m c main_v50) := by
  refine (dats m 0 c).arrAt_eq_of_covers 3 _ (by decide +kernel) fun t _ y => ?_
  blk_simp
  rw [after0_3]
  refine Eq.trans (congrArg (outsAt0 m c t) (a₂ := ix3 (y 0) (y 1) (y 2)) (by funext a; fin_cases a <;> rfl)) (point m c t (y 0) (y 1) (y 2) _ ?_ ?_ ?_)
  all_goals (blk_simp [idx t] <;> try omega)

end Cert.KernelValue
-- ==== Proof.Gather.lean ====
module

public import Idealize.ShloMosaic.Lib.Pointwise
public import Idealize.ShloMosaic.Lib.ValueIdx

/-!
# Fetching table rows by an index list, read at one element

Both programs fetch rows of a table `1 × N × C` by a list of `B` row numbers.  The reference indexes
the middle axis of the table (start indices `B × 1`, result `1 × B × C`), the kernel indexes the two
leading axes at once (start indices `B × 2`, the first component being the leading axis of size one,
result `B × C`).  Either way element `(e, k)` of the result is element `k` of the row whose number is
the start index of `e`, read signed and clamped into the table.
-/

@[expose] public section

noncomputable section

open Idealize.ShloMosaic

namespace Cert.Gather

/-- The row a start index names in a table of `N` rows: read signed, clamped into the table. -/
def row (N : Nat) (hN : 0 < N) (i : BitVec 32) : Fin N := ⟨min i.toInt.toNat (N - 1), by omega⟩

variable {α : Type} {N C B : Nat}

/-- The dimension numbers of a fetch along the middle axis. -/
abbrev middle (N C B : Nat)
    (wf : GatherDims.WF ⟨3, ![1, N, C]⟩ ⟨2, ![B, 1]⟩ ⟨3, ![1, B, C]⟩ [0, 2] [1] [] [1] [] 1 ![1, 1, C]) :
    GatherDims ⟨3, ![1, N, C]⟩ ⟨2, ![B, 1]⟩ ⟨3, ![1, B, C]⟩ where
  offsetDims := [0, 2]
  collapsedSliceDims := [1]
  operandBatchingDims := []
  startIndicesBatchingDims := []
  startIndexMap := [1]
  indexVectorDim := 1
  sliceSizes := ![1, 1, C]
  wf := wf

/-- The dimension numbers of a fetch along the two leading axes. -/
abbrev leading (N C B : Nat)
    (wf : GatherDims.WF ⟨3, ![1, N, C]⟩ ⟨2, ![B, 2]⟩ ⟨2, ![B, C]⟩ [1] [0, 1] [] [0, 1] [] 1 ![1, 1, C]) :
    GatherDims ⟨3, ![1, N, C]⟩ ⟨2, ![B, 2]⟩ ⟨2, ![B, C]⟩ where
  offsetDims := [1]
  collapsedSliceDims := [0, 1]
  operandBatchingDims := []
  startIndicesBatchingDims := []
  startIndexMap := [0, 1]
  indexVectorDim := 1
  sliceSizes := ![1, 1, C]
  wf := wf

/-- A fetch along the middle axis, read at an element. -/
theorem middle_apply (hN : 0 < N)
    (wf : GatherDims.WF ⟨3, ![1, N, C]⟩ ⟨2, ![B, 1]⟩ ⟨3, ![1, B, C]⟩ [0, 2] [1] [] [1] [] 1 ![1, 1, C])
    (x : (⟨3, ![1, N, C]⟩ : Shape).Idx → α) (idx : IVec ⟨2, ![B, 1]⟩ 32) (e : Fin B) (k : Fin C) :
    Host.gather (middle N C B wf) x idx (ix3 0 e k) = x (ix3 0 (row N hN (idx (ix2 e 0))) k) := by
  unfold Host.gather
  refine congrArg x (funext fun a => Fin.ext ?_)
  match a with
  | ⟨0, _⟩ => rfl
  | ⟨1, _⟩ =>
    have h : (middle N C B wf).siIdx (ix3 0 e k) ⟨0, Nat.one_pos⟩ = ix2 e 0 := by
      funext b; refine Fin.ext ?_
      match b with
      | ⟨0, _⟩ => rfl
      | ⟨1, _⟩ => rfl
    rw [← h]; rfl
  | ⟨2, _⟩ => exact (Nat.zero_add _)

/-- A fetch along the two leading axes, read at an element. -/
theorem leading_apply (hN : 0 < N)
    (wf : GatherDims.WF ⟨3, ![1, N, C]⟩ ⟨2, ![B, 2]⟩ ⟨2, ![B, C]⟩ [1] [0, 1] [] [0, 1] [] 1 ![1, 1, C])
    (x : (⟨3, ![1, N, C]⟩ : Shape).Idx → α) (idx : IVec ⟨2, ![B, 2]⟩ 32) (e : Fin B) (k : Fin C) :
    Host.gather (leading N C B wf) x idx (ix2 e k) = x (ix3 0 (row N hN (idx (ix2 e 1))) k) := by
  unfold Host.gather
  refine congrArg x (funext fun a => Fin.ext ?_)
  match a with
  | ⟨0, _⟩ => exact Nat.lt_one_iff.mp (Fin.isLt _)
  | ⟨1, _⟩ =>
    have h : (leading N C B wf).siIdx (ix2 e k) ⟨1, Nat.one_lt_two⟩ = ix2 e 1 := by
      funext b; refine Fin.ext ?_
      match b with
      | ⟨0, _⟩ => rfl
      | ⟨1, _⟩ => rfl
    rw [← h]; rfl
  | ⟨2, _⟩ => exact (Nat.zero_add _)

/-! ## The rows of an edge -/

/-- A row number counted from the end when it is negative: `n` is the number of rows. -/
def wrap (n i : BitVec 32) : BitVec 32 :=
  Scalar.select (IntOp.cmpi CmpIPredicate.slt i 0#32) (IntOp.addi i n) i

/-- The pose of frame number `i`. -/
def pose (P : (⟨3, ![1, 512, 7]⟩ : Shape).Idx → EReal) (i : BitVec 32) : Fin 7 → EReal :=
  fun k => P (ix3 0 (row 512 (by decide) (wrap 512#32 i)) k)

/-- The polar point of patch number `i`: range and azimuth from one table, elevation from another. -/
def point (A : (⟨3, ![1, 131072, 2]⟩ : Shape).Idx → EReal)
    (E : (⟨3, ![1, 131072, 1]⟩ : Shape).Idx → EReal) (i : BitVec 32) : Fin 3 → EReal :=
  ![A (ix3 0 (row 131072 (by decide) (wrap 131072#32 i)) 0),
    A (ix3 0 (row 131072 (by decide) (wrap 131072#32 i)) 1),
    E (ix3 0 (row 131072 (by decide) (wrap 131072#32 i)) 0)]

end Cert.Gather
-- ==== Proof.KernelHost.lean ====
/- What the kernel's host lines before and after the region compute, element by element. -/
module

public import proofs.«01_k».proof.Proof.Gen.KernelIdeal.Frame
public import proofs.«01_k».proof.Proof.Gather
public import Idealize.ShloMosaic.Lib.StableHlo.ReadAt
public import Idealize.ShloMosaic.Lib.Pipeline.ValueKit

@[expose] public section

set_option maxRecDepth 65536
set_option maxHeartbeats 4000000

noncomputable section

open Idealize.ShloMosaic Idealize.ShloMosaic.TcCoe Idealize.SL.Sem

namespace Cert.KernelHost

open Cert.KernelIdeal Cert.KernelIdeal.Gen

variable (W : Valuation τ sig (Elt Ideal))

/-- The edge laid out at row `r`, lane `l`. -/
def edgeAt (r : Fin 1024) (l : Fin 128) : Fin 131072 := ⟨r.val * 128 + l.val, by omega⟩

/-- The first seven planes are the source poses. -/
theorem source_at (j : Fin 7) (r : Fin 1024) (l : Fin 128) :
    StableHlo.after (hostOps0 (F := Ideal)) W (Proc.devRef .tc main_v46) (ix3 ⟨j.val, by omega⟩ r l)
      = Gather.pose (W (Proc.devRef .tc main_arg0)) (W (Proc.devRef .tc main_arg5) (ix1 (edgeAt r l))) j := by
  after_reads_at; repeat after_reads_at
  erw [Gather.leading_apply (N := 512) (by decide)]
  pointwise
  after_reads_at
  rfl

/-- The next seven planes are the target poses. -/
theorem target_at (j : Fin 7) (r : Fin 1024) (l : Fin 128) :
    StableHlo.after (hostOps0 (F := Ideal)) W (Proc.devRef .tc main_v46) (ix3 ⟨7 + j.val, by omega⟩ r l)
      = Gather.pose (W (Proc.devRef .tc main_arg0)) (W (Proc.devRef .tc main_arg6) (ix1 (edgeAt r l))) j := by
  after_reads_at; repeat after_reads_at
  erw [Gather.leading_apply (N := 512) (by decide)]
  pointwise
  after_reads_at
  rfl

/-- Plane 14 is the points' range. -/
theorem point0_at (r : Fin 1024) (l : Fin 128) :
    StableHlo.after (hostOps0 (F := Ideal)) W (Proc.devRef .tc main_v46) (ix3 14 r l)
      = Gather.point (W (Proc.devRef .tc main_arg1)) (W (Proc.devRef .tc main_arg2)) (W (Proc.devRef .tc main_arg7) (ix1 (edgeAt r l))) 0 := by
  after_reads_at; repeat after_reads_at
  erw [Gather.leading_apply (N := 131072) (by decide)]
  pointwise
  after_reads_at
  rfl

/-- Plane 15 is the points' azimuth. -/
theorem point1_at (r : Fin 1024) (l : Fin 128) :
    StableHlo.after (hostOps0 (F := Ideal)) W (Proc.devRef .tc main_v46) (ix3 15 r l)
      = Gather.point (W (Proc.devRef .tc main_arg1)) (W (Proc.devRef .tc main_arg2)) (W (Proc.devRef .tc main_arg7) (ix1 (edgeAt r l))) 1 := by
  after_reads_at; repeat after_reads_at
  erw [Gather.leading_apply (N := 131072) (by decide)]
  pointwise
  after_reads_at
  rfl

/-- Plane 16 is the points' elevation. -/
theorem point2_at (r : Fin 1024) (l : Fin 128) :
    StableHlo.after (hostOps0 (F := Ideal)) W (Proc.devRef .tc main_v46) (ix3 16 r l)
      = Gather.point (W (Proc.devRef .tc main_arg1)) (W (Proc.devRef .tc main_arg2)) (W (Proc.devRef .tc main_arg7) (ix1 (edgeAt r l))) 2 := by
  after_reads_at; repeat after_reads_at
  erw [Gather.leading_apply (N := 131072) (by decide)]
  pointwise
  after_reads_at
  rfl

/-- The measurements, laid out plane by plane. -/
theorem measure_at (k : Fin 2) (r : Fin 1024) (l : Fin 128) :
    StableHlo.after (hostOps0 (F := Ideal)) W (Proc.devRef .tc main_v49) (ix3 k r l)
      = W (Proc.devRef .tc main_arg3) (ix3 0 (edgeAt r l) k) := by
  after_reads_at; repeat after_reads_at
  rfl

/-- The two scales. -/
theorem scale_at (k : Fin 2) :
    StableHlo.after (hostOps0 (F := Ideal)) W (Proc.devRef .tc main_v50) (ix2 0 k)
      = W (Proc.devRef .tc main_arg4) (ix3 0 0 k) := by
  after_reads_at; repeat after_reads_at

/-- The result interleaves the two output planes. -/
theorem result_at (n : Fin 262144) :
    StableHlo.after (hostOps1 (F := Ideal)) W (Proc.devRef .tc main_v54) (ix2 0 n)
      = W (Proc.devRef .tc main_v51) (ix3 ⟨n.val % 2, by omega⟩ ⟨n.val / 2 / 128, by omega⟩ ⟨n.val / 2 % 128, by omega⟩) := by
  after_reads_at; repeat after_reads_at

end Cert.KernelHost
-- ==== Proof.KernelRun.lean ====
/- The kernel's run: what its result array holds when it ends. -/
module

public import proofs.«01_k».proof.Proof.KernelValue
public import proofs.«01_k».proof.Proof.KernelHost

@[expose] public section

set_option maxRecDepth 16384

noncomputable section

open Idealize.ShloMosaic Idealize.ShloMosaic.TcCoe Idealize.SL.Sem
open Idealize.ShloMosaic.Pipeline (Dat)

namespace Cert.KernelRun

open Cert.KernelIdeal Cert.KernelIdeal.Gen

/-- The edge of a result element, and which of its two residuals it is. -/
def edge (n : Fin 262144) : Fin 131072 := ⟨n.val / 2, by omega⟩
@[inherit_doc edge] def part (n : Fin 262144) : Fin 2 := ⟨n.val % 2, by omega⟩

/-- The residual at a result element, from contents of the eight arguments. -/
def value (W : Valuation τ sig (Elt Ideal)) (n : Fin 262144) : EReal :=
  Edge.residualBySign (Gather.pose (W (Proc.devRef .tc main_arg0)) (W (Proc.devRef .tc main_arg5) (ix1 (edge n))))
    (Gather.pose (W (Proc.devRef .tc main_arg0)) (W (Proc.devRef .tc main_arg6) (ix1 (edge n))))
    (Gather.point (W (Proc.devRef .tc main_arg1)) (W (Proc.devRef .tc main_arg2)) (W (Proc.devRef .tc main_arg7) (ix1 (edge n))))
    (part n) (W (Proc.devRef .tc main_arg3) (ix3 0 (edge n) (part n))) (W (Proc.devRef .tc main_arg4) (ix3 0 0 (part n)))

/-- The residual planes, at the row and lane of a result element. -/
theorem planes_at (W : Valuation τ sig (Elt Ideal)) (n : Fin 262144) :
    KernelValue.planes (StableHlo.after (hostOps0 (F := Ideal)) W (Proc.devRef .tc main_v46))
      (StableHlo.after (hostOps0 (F := Ideal)) W (Proc.devRef .tc main_v49))
      (StableHlo.after (hostOps0 (F := Ideal)) W (Proc.devRef .tc main_v50))
      (ix3 ⟨n.val % 2, by omega⟩ ⟨n.val / 2 / 128, by omega⟩ ⟨n.val / 2 % 128, by omega⟩) = value W n := by
  have h : KernelHost.edgeAt ⟨n.val / 2 / 128, by omega⟩ ⟨n.val / 2 % 128, by omega⟩ = edge n :=
    Fin.ext (by simp only [KernelHost.edgeAt, edge]; omega)
  unfold KernelValue.planes value
  refine KernelBlock.residual_congr (funext fun j => ?_) (funext fun j => ?_) (funext fun j => ?_) ?_ ?_
  · rw [← h]; exact KernelHost.source_at W j _ _
  · rw [← h]; exact KernelHost.target_at W j _ _
  · rw [← h]
    match j with
    | 0 => exact KernelHost.point0_at W _ _
    | 1 => exact KernelHost.point1_at W _ _
    | 2 => exact KernelHost.point2_at W _ _
  · rw [← h]; exact KernelHost.measure_at W _ _ _
  · exact KernelHost.scale_at W _

variable (m : (ℓ : Loc nD τ sig) → Buf (Elt Ideal) ℓ) (ρ : Dev nD → PrngReg)

/-- What the lines after the region leave in the result array. -/
theorem tail_at (c : Dev nD) (n : Fin 262144) :
    Pipeline.afterTail₀ cfgs (dats m) 0 (V0 m) [hostOps1] c main_v54 (ix2 0 n) = value (StableHlo.launchContents m c) n := by
  refine (KernelHost.result_at _ n).trans ?_
  refine (congrFun ((Pipeline.withArrays_arr (cfgs 0).spec (by decide) c (V0 m c) _ 3).trans (KernelValue.final m c)) _).trans ?_
  exact planes_at _ n

/-- The kernel runs: its result array ends at `value` and its arguments end unchanged. -/
theorem run : θ_run (defs (F := Ideal)) (onTc (τ := τ) (main (F := Ideal))) ⟨m, fun _ => 0, ρ⟩ (fun r => ∀ c : Dev nD,
      r.2.mem ((c.tc : Thread nD τ).loc main_v54) = (fun i : S1x262144.Idx => value (StableHlo.launchContents m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).2 main_v54 (Pipeline.mem_restRefs_of main_v54 (by decide) (by decide))).trans
      (funext fun i => by
        have e : i = ix2 0 (i 1) := by
          funext a
          match a with
          | ⟨0, _⟩ => exact Subsingleton.elim (α := Fin 1) _ _
          | ⟨1, _⟩ => rfl
        rw [e]; exact tail_at m c _), h.2 c⟩) (θ_run_and (run_main m ρ) (unchanged m ρ))

end Cert.KernelRun
-- ==== Proof.RefOps.lean ====
/-
  The reference's host operations, listed in six stretches (`Cert.ReferenceIdeal.main` runs them one after another), and its run:
  every buffer ends at what the six stretches, applied in order, leave there.
-/
module

public import proofs.«01_k».proof.Defs
public import proofs.«01_k».proof.Proof.Gen.ReferenceIdeal
public import Idealize.ShloMosaic.Lib.Claim
public import Idealize.ShloMosaic.Lib.Quiescent

@[expose] public section

noncomputable section

open Idealize.ShloMosaic Idealize.ShloMosaic.TcCoe Idealize.SL.Sem

namespace Cert.RefRun

open Cert.ReferenceIdeal Cert.ReferenceIdeal.Facts₀

variable {F : FTy → Type} [FloatOps F]

/-- What a call of the norm over a quaternion's four components runs. -/
def normOps (arg0 : StableHlo.TRef sig ⟨S1x512x4, .f32⟩) (φ : fn_norm.Bufs) : List (HloOp τ sig (Elt F)) :=
  [
    StableHlo.TRef.binary arg0 arg0 φ.v0 mulf,
    StableHlo.TRef.nullary φ.cst (constant S_ .f32 0x00000000#32),
    StableHlo.TRef.binary φ.v0 φ.cst φ.v1 (fun x v => Host.reduceAdd x v reducesTo_S1x512x4_S1x512_d2 h_S_),
    StableHlo.TRef.unary φ.v1 φ.v2 (broadcastInDim S1x512x1 ![0, 1] bcast_S1x512_S1x512x1_0_1),
    StableHlo.TRef.unary φ.v2 φ.v3 Host.sqrt]

/-- What a call of the cross product of two arrays of vectors runs. -/
def crossOps (arg0 arg1 : StableHlo.TRef sig ⟨S131072x3, .f32⟩) (φ : fn_cross.Bufs) : List (HloOp τ sig (Elt F)) :=
  [
    StableHlo.TRef.unary arg0 φ.v0 (extractStridedSlice S131072x1 ![0, 0] · slices_S131072x3_S131072x1_0_0),
    StableHlo.TRef.reshape φ.v0 φ.v1 (rfl : (.f32 : EltTy) = .f32) shapeCasts_S131072x1_S131072,
    StableHlo.TRef.unary arg0 φ.v2 (extractStridedSlice S131072x1 ![0, 1] · slices_S131072x3_S131072x1_0_1),
    StableHlo.TRef.reshape φ.v2 φ.v3 (rfl : (.f32 : EltTy) = .f32) shapeCasts_S131072x1_S131072,
    StableHlo.TRef.unary arg0 φ.v4 (extractStridedSlice S131072x1 ![0, 2] · slices_S131072x3_S131072x1_0_2),
    StableHlo.TRef.reshape φ.v4 φ.v5 (rfl : (.f32 : EltTy) = .f32) shapeCasts_S131072x1_S131072,
    StableHlo.TRef.unary arg1 φ.v6 (extractStridedSlice S131072x1 ![0, 0] · slices_S131072x3_S131072x1_0_0),
    StableHlo.TRef.reshape φ.v6 φ.v7 (rfl : (.f32 : EltTy) = .f32) shapeCasts_S131072x1_S131072,
    StableHlo.TRef.unary arg1 φ.v8 (extractStridedSlice S131072x1 ![0, 1] · slices_S131072x3_S131072x1_0_1),
    StableHlo.TRef.reshape φ.v8 φ.v9 (rfl : (.f32 : EltTy) = .f32) shapeCasts_S131072x1_S131072,
    StableHlo.TRef.unary arg1 φ.v10 (extractStridedSlice S131072x1 ![0, 2] · slices_S131072x3_S131072x1_0_2),
    StableHlo.TRef.reshape φ.v10 φ.v11 (rfl : (.f32 : EltTy) = .f32) shapeCasts_S131072x1_S131072,
    StableHlo.TRef.binary φ.v3 φ.v11 φ.v12 mulf,
    StableHlo.TRef.binary φ.v5 φ.v9 φ.v13 mulf,
    StableHlo.TRef.binary φ.v12 φ.v13 φ.v14 subf,
    StableHlo.TRef.binary φ.v5 φ.v7 φ.v15 mulf,
    StableHlo.TRef.binary φ.v1 φ.v11 φ.v16 mulf,
    StableHlo.TRef.binary φ.v15 φ.v16 φ.v17 subf,
    StableHlo.TRef.binary φ.v1 φ.v9 φ.v18 mulf,
    StableHlo.TRef.binary φ.v3 φ.v7 φ.v19 mulf,
    StableHlo.TRef.binary φ.v18 φ.v19 φ.v20 subf,
    StableHlo.TRef.unary φ.v14 φ.v21 (broadcastInDim S1x131072 ![1] bcast_S131072_S1x131072_1),
    StableHlo.TRef.unary φ.v17 φ.v22 (broadcastInDim S1x131072 ![1] bcast_S131072_S1x131072_1),
    StableHlo.TRef.unary φ.v20 φ.v23 (broadcastInDim S1x131072 ![1] bcast_S131072_S1x131072_1),
    StableHlo.TRef.nary ![φ.v21, φ.v22, φ.v23] φ.v24 (fun u => (concatenate S3x131072 0 [⟨S1x131072, (u 0 : (⟨S1x131072, .f32⟩ : BufTy).Contents (Elt F))⟩, ⟨S1x131072, (u 1 : (⟨S1x131072, .f32⟩ : BufTy).Contents (Elt F))⟩, ⟨S1x131072, (u 2 : (⟨S1x131072, .f32⟩ : BufTy).Contents (Elt F))⟩] concatenates_S1x131072_S1x131072_S1x131072_S3x131072_d0 : (⟨S3x131072, .f32⟩ : BufTy).Contents (Elt F))),
    StableHlo.TRef.unary φ.v24 φ.v25 (transpose S131072x3 [1, 0] · transposes_S3x131072_S131072x3_1_0)]

/-- What the call that clamps the sine of the elevation runs. -/
def clipOps (arg0 : StableHlo.TRef sig ⟨S131072, .f32⟩) (arg1 arg2 : StableHlo.TRef sig ⟨S_, .f32⟩) (φ : fn_clip.Bufs) :
    List (HloOp τ sig (Elt F)) :=
  [
    StableHlo.TRef.unary arg1 φ.v0 id,
    StableHlo.TRef.unary φ.v0 φ.v1 (broadcastInDim S131072 ![] bcast_S_S131072),
    StableHlo.TRef.binary φ.v1 arg0 φ.v2 maximumf,
    StableHlo.TRef.unary arg2 φ.v3 id,
    StableHlo.TRef.unary φ.v3 φ.v4 (broadcastInDim S131072 ![] bcast_S_S131072),
    StableHlo.TRef.binary φ.v4 φ.v2 φ.v5 minimumf]

/-- The poses with their quaternions normalised. -/
def poseOps : List (HloOp τ sig (Elt F)) :=
  [
    StableHlo.unary main_arg0 main_v0 ((extractStridedSlice S1x512x3 ![0, 0, 0] · slices_S1x512x7_S1x512x3_0_0_0) : (⟨S1x512x7, .f32⟩ : BufTy).Contents (Elt F) → (⟨S1x512x3, .f32⟩ : BufTy).Contents (Elt F)),
    StableHlo.unary main_arg0 main_v1 ((extractStridedSlice S1x512x4 ![0, 0, 3] · slices_S1x512x7_S1x512x4_0_0_3) : (⟨S1x512x7, .f32⟩ : BufTy).Contents (Elt F) → (⟨S1x512x4, .f32⟩ : BufTy).Contents (Elt F))] ++ normOps (.of main_v1) main_call0 ++ [
    StableHlo.nullary main_cst (constant S_ .f32 0x2B8CBCCC#32),
    StableHlo.unary main_cst main_v3 (broadcastInDim S1x512x1 ![] bcast_S_S1x512x1 : (⟨S_, .f32⟩ : BufTy).Contents (Elt F) → (⟨S1x512x1, .f32⟩ : BufTy).Contents (Elt F)),
    StableHlo.binary main_v2 main_v3 main_v4 (maximumf : (⟨S1x512x1, .f32⟩ : BufTy).Contents (Elt F) → (⟨S1x512x1, .f32⟩ : BufTy).Contents (Elt F) → (⟨S1x512x1, .f32⟩ : BufTy).Contents (Elt F)),
    StableHlo.unary main_v4 main_v5 (broadcastInDim S1x512x4 ![0, 1, 2] bcast_S1x512x1_S1x512x4_0_1_2 : (⟨S1x512x1, .f32⟩ : BufTy).Contents (Elt F) → (⟨S1x512x4, .f32⟩ : BufTy).Contents (Elt F)),
    StableHlo.binary main_v1 main_v5 main_v6 (Host.divf : (⟨S1x512x4, .f32⟩ : BufTy).Contents (Elt F) → (⟨S1x512x4, .f32⟩ : BufTy).Contents (Elt F) → (⟨S1x512x4, .f32⟩ : BufTy).Contents (Elt F)),
    StableHlo.binary main_v0 main_v6 main_v7 ((fun a b => concatenate S1x512x7 2 [⟨S1x512x3, a⟩, ⟨S1x512x4, b⟩] concatenates_S1x512x3_S1x512x4_S1x512x7_d2) : (⟨S1x512x3, .f32⟩ : BufTy).Contents (Elt F) → (⟨S1x512x4, .f32⟩ : BufTy).Contents (Elt F) → (⟨S1x512x7, .f32⟩ : BufTy).Contents (Elt F))]

/-- The rows that the index lists name: each edge's two poses and its polar point. -/
def gatherOps : List (HloOp τ sig (Elt F)) :=
  [
    StableHlo.nullary main_c (constantI S_ 32 0#32),
    StableHlo.unary main_c main_v8 (broadcastInDim S131072 ![] bcast_S_S131072 : (⟨S_, .i32⟩ : BufTy).Contents (Elt F) → (⟨S131072, .i32⟩ : BufTy).Contents (Elt F)),
    StableHlo.binary main_arg7 main_v8 main_v9 (cmpi .slt : (⟨S131072, .i32⟩ : BufTy).Contents (Elt F) → (⟨S131072, .i32⟩ : BufTy).Contents (Elt F) → (⟨S131072, .i1⟩ : BufTy).Contents (Elt F)),
    StableHlo.nullary main_c_0 (constantI S_ 32 131072#32),
    StableHlo.unary main_c_0 main_v10 (broadcastInDim S131072 ![] bcast_S_S131072 : (⟨S_, .i32⟩ : BufTy).Contents (Elt F) → (⟨S131072, .i32⟩ : BufTy).Contents (Elt F)),
    StableHlo.binary main_arg7 main_v10 main_v11 (addi : (⟨S131072, .i32⟩ : BufTy).Contents (Elt F) → (⟨S131072, .i32⟩ : BufTy).Contents (Elt F) → (⟨S131072, .i32⟩ : BufTy).Contents (Elt F)),
    StableHlo.ternary main_v9 main_v11 main_arg7 main_v12 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v12 main_v13 (broadcastInDim S131072x1 ![0] bcast_S131072_S131072x1_0 : (⟨S131072, .i32⟩ : BufTy).Contents (Elt F) → (⟨S131072x1, .i32⟩ : BufTy).Contents (Elt F)),
    StableHlo.binary main_arg1 main_v13 main_v14 ((fun x i => Host.gather gather_S1x131072x2_S131072x1_S1x131072x2_02_1_n_n_1_1_112 x i) : (⟨S1x131072x2, .f32⟩ : BufTy).Contents (Elt F) → (⟨S131072x1, .i32⟩ : BufTy).Contents (Elt F) → (⟨S1x131072x2, .f32⟩ : BufTy).Contents (Elt F)),
    StableHlo.nullary main_c_1 (constantI S_ 32 0#32),
    StableHlo.unary main_c_1 main_v15 (broadcastInDim S131072 ![] bcast_S_S131072 : (⟨S_, .i32⟩ : BufTy).Contents (Elt F) → (⟨S131072, .i32⟩ : BufTy).Contents (Elt F)),
    StableHlo.binary main_arg7 main_v15 main_v16 (cmpi .slt : (⟨S131072, .i32⟩ : BufTy).Contents (Elt F) → (⟨S131072, .i32⟩ : BufTy).Contents (Elt F) → (⟨S131072, .i1⟩ : BufTy).Contents (Elt F)),
    StableHlo.nullary main_c_2 (constantI S_ 32 131072#32),
    StableHlo.unary main_c_2 main_v17 (broadcastInDim S131072 ![] bcast_S_S131072 : (⟨S_, .i32⟩ : BufTy).Contents (Elt F) → (⟨S131072, .i32⟩ : BufTy).Contents (Elt F)),
    StableHlo.binary main_arg7 main_v17 main_v18 (addi : (⟨S131072, .i32⟩ : BufTy).Contents (Elt F) → (⟨S131072, .i32⟩ : BufTy).Contents (Elt F) → (⟨S131072, .i32⟩ : BufTy).Contents (Elt F)),
    StableHlo.ternary main_v16 main_v18 main_arg7 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v19 main_v20 (broadcastInDim S131072x1 ![0] bcast_S131072_S131072x1_0 : (⟨S131072, .i32⟩ : BufTy).Contents (Elt F) → (⟨S131072x1, .i32⟩ : BufTy).Contents (Elt F)),
    StableHlo.binary main_arg2 main_v20 main_v21 ((fun x i => Host.gather gather_S1x131072x1_S131072x1_S1x131072x1_02_1_n_n_1_1_111 x i) : (⟨S1x131072x1, .f32⟩ : BufTy).Contents (Elt F) → (⟨S131072x1, .i32⟩ : BufTy).Contents (Elt F) → (⟨S1x131072x1, .f32⟩ : BufTy).Contents (Elt F)),
    StableHlo.binary main_v14 main_v21 main_v22 ((fun a b => concatenate S1x131072x3 2 [⟨S1x131072x2, a⟩, ⟨S1x131072x1, b⟩] concatenates_S1x131072x2_S1x131072x1_S1x131072x3_d2) : (⟨S1x131072x2, .f32⟩ : BufTy).Contents (Elt F) → (⟨S1x131072x1, .f32⟩ : BufTy).Contents (Elt F) → (⟨S1x131072x3, .f32⟩ : BufTy).Contents (Elt F)),
    StableHlo.nullary main_c_3 (constantI S_ 32 0#32),
    StableHlo.unary main_c_3 main_v23 (broadcastInDim S131072 ![] bcast_S_S131072 : (⟨S_, .i32⟩ : BufTy).Contents (Elt F) → (⟨S131072, .i32⟩ : BufTy).Contents (Elt F)),
    StableHlo.binary main_arg5 main_v23 main_v24 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 512#32),
    StableHlo.unary main_c_4 main_v25 (broadcastInDim S131072 ![] bcast_S_S131072 : (⟨S_, .i32⟩ : BufTy).Contents (Elt F) → (⟨S131072, .i32⟩ : BufTy).Contents (Elt F)),
    StableHlo.binary main_arg5 main_v25 main_v26 (addi : (⟨S131072, .i32⟩ : BufTy).Contents (Elt F) → (⟨S131072, .i32⟩ : BufTy).Contents (Elt F) → (⟨S131072, .i32⟩ : BufTy).Contents (Elt F)),
    StableHlo.ternary main_v24 main_v26 main_arg5 main_v27 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v27 main_v28 (broadcastInDim S131072x1 ![0] bcast_S131072_S131072x1_0 : (⟨S131072, .i32⟩ : BufTy).Contents (Elt F) → (⟨S131072x1, .i32⟩ : BufTy).Contents (Elt F)),
    StableHlo.binary main_v7 main_v28 main_v29 ((fun x i => Host.gather gather_S1x512x7_S131072x1_S1x131072x7_02_1_n_n_1_1_117 x i) : (⟨S1x512x7, .f32⟩ : BufTy).Contents (Elt F) → (⟨S131072x1, .i32⟩ : BufTy).Contents (Elt F) → (⟨S1x131072x7, .f32⟩ : BufTy).Contents (Elt F)),
    StableHlo.nullary main_c_5 (constantI S_ 32 0#32),
    StableHlo.unary main_c_5 main_v30 (broadcastInDim S131072 ![] bcast_S_S131072 : (⟨S_, .i32⟩ : BufTy).Contents (Elt F) → (⟨S131072, .i32⟩ : BufTy).Contents (Elt F)),
    StableHlo.binary main_arg6 main_v30 main_v31 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 512#32),
    StableHlo.unary main_c_6 main_v32 (broadcastInDim S131072 ![] bcast_S_S131072 : (⟨S_, .i32⟩ : BufTy).Contents (Elt F) → (⟨S131072, .i32⟩ : BufTy).Contents (Elt F)),
    StableHlo.binary main_arg6 main_v32 main_v33 (addi : (⟨S131072, .i32⟩ : BufTy).Contents (Elt F) → (⟨S131072, .i32⟩ : BufTy).Contents (Elt F) → (⟨S131072, .i32⟩ : BufTy).Contents (Elt F)),
    StableHlo.ternary main_v31 main_v33 main_arg6 main_v34 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v34 main_v35 (broadcastInDim S131072x1 ![0] bcast_S131072_S131072x1_0 : (⟨S131072, .i32⟩ : BufTy).Contents (Elt F) → (⟨S131072x1, .i32⟩ : BufTy).Contents (Elt F)),
    StableHlo.binary main_v7 main_v35 main_v36 ((fun x i => Host.gather gather_S1x512x7_S131072x1_S1x131072x7_02_1_n_n_1_1_117 x i) : (⟨S1x512x7, .f32⟩ : BufTy).Contents (Elt F) → (⟨S131072x1, .i32⟩ : BufTy).Contents (Elt F) → (⟨S1x131072x7, .f32⟩ : BufTy).Contents (Elt F)),
    StableHlo.reshape main_v29 main_v37 (rfl : (.f32 : EltTy) = .f32) shapeCasts_S1x131072x7_S131072x7,
    StableHlo.reshape main_v36 main_v38 (rfl : (.f32 : EltTy) = .f32) shapeCasts_S1x131072x7_S131072x7,
    StableHlo.reshape main_v22 main_v39 (rfl : (.f32 : EltTy) = .f32) shapeCasts_S1x131072x3_S131072x3]

/-- The polar points in Cartesian coordinates. -/
def rayOps : List (HloOp τ sig (Elt F)) :=
  [
    StableHlo.unary main_v39 main_v40 ((extractStridedSlice S131072x1 ![0, 0] · slices_S131072x3_S131072x1_0_0) : (⟨S131072x3, .f32⟩ : BufTy).Contents (Elt F) → (⟨S131072x1, .f32⟩ : BufTy).Contents (Elt F)),
    StableHlo.reshape main_v40 main_v41 (rfl : (.f32 : EltTy) = .f32) shapeCasts_S131072x1_S131072,
    StableHlo.unary main_v39 main_v42 ((extractStridedSlice S131072x1 ![0, 1] · slices_S131072x3_S131072x1_0_1) : (⟨S131072x3, .f32⟩ : BufTy).Contents (Elt F) → (⟨S131072x1, .f32⟩ : BufTy).Contents (Elt F)),
    StableHlo.reshape main_v42 main_v43 (rfl : (.f32 : EltTy) = .f32) shapeCasts_S131072x1_S131072,
    StableHlo.unary main_v39 main_v44 ((extractStridedSlice S131072x1 ![0, 2] · slices_S131072x3_S131072x1_0_2) : (⟨S131072x3, .f32⟩ : BufTy).Contents (Elt F) → (⟨S131072x1, .f32⟩ : BufTy).Contents (Elt F)),
    StableHlo.reshape main_v44 main_v45 (rfl : (.f32 : EltTy) = .f32) shapeCasts_S131072x1_S131072,
    StableHlo.unary main_v45 main_v46 (Host.cos : (⟨S131072, .f32⟩ : BufTy).Contents (Elt F) → (⟨S131072, .f32⟩ : BufTy).Contents (Elt F)),
    StableHlo.binary main_v41 main_v46 main_v47 (mulf : (⟨S131072, .f32⟩ : BufTy).Contents (Elt F) → (⟨S131072, .f32⟩ : BufTy).Contents (Elt F) → (⟨S131072, .f32⟩ : BufTy).Contents (Elt F)),
    StableHlo.unary main_v43 main_v48 (Host.cos : (⟨S131072, .f32⟩ : BufTy).Contents (Elt F) → (⟨S131072, .f32⟩ : BufTy).Contents (Elt F)),
    StableHlo.binary main_v47 main_v48 main_v49 (mulf : (⟨S131072, .f32⟩ : BufTy).Contents (Elt F) → (⟨S131072, .f32⟩ : BufTy).Contents (Elt F) → (⟨S131072, .f32⟩ : BufTy).Contents (Elt F)),
    StableHlo.binary main_v41 main_v46 main_v50 (mulf : (⟨S131072, .f32⟩ : BufTy).Contents (Elt F) → (⟨S131072, .f32⟩ : BufTy).Contents (Elt F) → (⟨S131072, .f32⟩ : BufTy).Contents (Elt F)),
    StableHlo.unary main_v43 main_v51 (Host.sin : (⟨S131072, .f32⟩ : BufTy).Contents (Elt F) → (⟨S131072, .f32⟩ : BufTy).Contents (Elt F)),
    StableHlo.binary main_v50 main_v51 main_v52 (mulf : (⟨S131072, .f32⟩ : BufTy).Contents (Elt F) → (⟨S131072, .f32⟩ : BufTy).Contents (Elt F) → (⟨S131072, .f32⟩ : BufTy).Contents (Elt F)),
    StableHlo.unary main_v45 main_v53 (Host.sin : (⟨S131072, .f32⟩ : BufTy).Contents (Elt F) → (⟨S131072, .f32⟩ : BufTy).Contents (Elt F)),
    StableHlo.binary main_v41 main_v53 main_v54 (mulf : (⟨S131072, .f32⟩ : BufTy).Contents (Elt F) → (⟨S131072, .f32⟩ : BufTy).Contents (Elt F) → (⟨S131072, .f32⟩ : BufTy).Contents (Elt F)),
    StableHlo.unary main_v49 main_v55 (broadcastInDim S131072x1 ![0] bcast_S131072_S131072x1_0 : (⟨S131072, .f32⟩ : BufTy).Contents (Elt F) → (⟨S131072x1, .f32⟩ : BufTy).Contents (Elt F)),
    StableHlo.unary main_v52 main_v56 (broadcastInDim S131072x1 ![0] bcast_S131072_S131072x1_0 : (⟨S131072, .f32⟩ : BufTy).Contents (Elt F) → (⟨S131072x1, .f32⟩ : BufTy).Contents (Elt F)),
    StableHlo.unary main_v54 main_v57 (broadcastInDim S131072x1 ![0] bcast_S131072_S131072x1_0 : (⟨S131072, .f32⟩ : BufTy).Contents (Elt F) → (⟨S131072x1, .f32⟩ : BufTy).Contents (Elt F)),
    StableHlo.nary ![main_v55, main_v56, main_v57] main_v58 (fun u => (concatenate S131072x3 1 [⟨S131072x1, (u 0 : (⟨S131072x1, .f32⟩ : BufTy).Contents (Elt F))⟩, ⟨S131072x1, (u 1 : (⟨S131072x1, .f32⟩ : BufTy).Contents (Elt F))⟩, ⟨S131072x1, (u 2 : (⟨S131072x1, .f32⟩ : BufTy).Contents (Elt F))⟩] concatenates_S131072x1_S131072x1_S131072x1_S131072x3_d1 : (⟨S131072x3, .f32⟩ : BufTy).Contents (Elt F)))]

/-- The Cartesian points carried from the source frame to the world frame. -/
def forwardOps : List (HloOp τ sig (Elt F)) :=
  [
    StableHlo.unary main_v37 main_v59 ((extractStridedSlice S131072x4 ![0, 3] · slices_S131072x7_S131072x4_0_3) : (⟨S131072x7, .f32⟩ : BufTy).Contents (Elt F) → (⟨S131072x4, .f32⟩ : BufTy).Contents (Elt F)),
    StableHlo.unary main_v59 main_v60 ((extractStridedSlice S131072x3 ![0, 0] · slices_S131072x4_S131072x3_0_0) : (⟨S131072x4, .f32⟩ : BufTy).Contents (Elt F) → (⟨S131072x3, .f32⟩ : BufTy).Contents (Elt F)),
    StableHlo.unary main_v59 main_v61 ((extractStridedSlice S131072x1 ![0, 3] · slices_S131072x4_S131072x1_0_3) : (⟨S131072x4, .f32⟩ : BufTy).Contents (Elt F) → (⟨S131072x1, .f32⟩ : BufTy).Contents (Elt F))] ++ crossOps (.of main_v60) (.of main_v58) main_call1 ++ [
    StableHlo.nullary main_cst_7 (constant S_ .f32 0x40000000#32),
    StableHlo.unary main_cst_7 main_v63 (broadcastInDim S131072x3 ![] bcast_S_S131072x3 : (⟨S_, .f32⟩ : BufTy).Contents (Elt F) → (⟨S131072x3, .f32⟩ : BufTy).Contents (Elt F)),
    StableHlo.binary main_v63 main_v62 main_v64 (mulf : (⟨S131072x3, .f32⟩ : BufTy).Contents (Elt F) → (⟨S131072x3, .f32⟩ : BufTy).Contents (Elt F) → (⟨S131072x3, .f32⟩ : BufTy).Contents (Elt F)),
    StableHlo.unary main_v61 main_v65 (broadcastInDim S131072x3 ![0, 1] bcast_S131072x1_S131072x3_0_1 : (⟨S131072x1, .f32⟩ : BufTy).Contents (Elt F) → (⟨S131072x3, .f32⟩ : BufTy).Contents (Elt F)),
    StableHlo.binary main_v65 main_v64 main_v66 (mulf : (⟨S131072x3, .f32⟩ : BufTy).Contents (Elt F) → (⟨S131072x3, .f32⟩ : BufTy).Contents (Elt F) → (⟨S131072x3, .f32⟩ : BufTy).Contents (Elt F)),
    StableHlo.binary main_v58 main_v66 main_v67 (addf : (⟨S131072x3, .f32⟩ : BufTy).Contents (Elt F) → (⟨S131072x3, .f32⟩ : BufTy).Contents (Elt F) → (⟨S131072x3, .f32⟩ : BufTy).Contents (Elt F))] ++ crossOps (.of main_v60) (.of main_v64) main_call2 ++ [
    StableHlo.binary main_v67 main_v68 main_v69 (addf : (⟨S131072x3, .f32⟩ : BufTy).Contents (Elt F) → (⟨S131072x3, .f32⟩ : BufTy).Contents (Elt F) → (⟨S131072x3, .f32⟩ : BufTy).Contents (Elt F)),
    StableHlo.unary main_v37 main_v70 ((extractStridedSlice S131072x3 ![0, 0] · slices_S131072x7_S131072x3_0_0) : (⟨S131072x7, .f32⟩ : BufTy).Contents (Elt F) → (⟨S131072x3, .f32⟩ : BufTy).Contents (Elt F)),
    StableHlo.binary main_v69 main_v70 main_v71 (addf : (⟨S131072x3, .f32⟩ : BufTy).Contents (Elt F) → (⟨S131072x3, .f32⟩ : BufTy).Contents (Elt F) → (⟨S131072x3, .f32⟩ : BufTy).Contents (Elt F))]

/-- The world points carried into the target frame. -/
def backwardOps : List (HloOp τ sig (Elt F)) :=
  [
    StableHlo.unary main_v38 main_v72 ((extractStridedSlice S131072x4 ![0, 3] · slices_S131072x7_S131072x4_0_3) : (⟨S131072x7, .f32⟩ : BufTy).Contents (Elt F) → (⟨S131072x4, .f32⟩ : BufTy).Contents (Elt F)),
    StableHlo.unary main_v72 main_v73 ((extractStridedSlice S131072x3 ![0, 0] · slices_S131072x4_S131072x3_0_0) : (⟨S131072x4, .f32⟩ : BufTy).Contents (Elt F) → (⟨S131072x3, .f32⟩ : BufTy).Contents (Elt F)),
    StableHlo.unary main_v73 main_v74 (Host.negf : (⟨S131072x3, .f32⟩ : BufTy).Contents (Elt F) → (⟨S131072x3, .f32⟩ : BufTy).Contents (Elt F)),
    StableHlo.unary main_v72 main_v75 ((extractStridedSlice S131072x1 ![0, 3] · slices_S131072x4_S131072x1_0_3) : (⟨S131072x4, .f32⟩ : BufTy).Contents (Elt F) → (⟨S131072x1, .f32⟩ : BufTy).Contents (Elt F)),
    StableHlo.binary main_v74 main_v75 main_v76 ((fun a b => concatenate S131072x4 1 [⟨S131072x3, a⟩, ⟨S131072x1, b⟩] concatenates_S131072x3_S131072x1_S131072x4_d1) : (⟨S131072x3, .f32⟩ : BufTy).Contents (Elt F) → (⟨S131072x1, .f32⟩ : BufTy).Contents (Elt F) → (⟨S131072x4, .f32⟩ : BufTy).Contents (Elt F)),
    StableHlo.unary main_v38 main_v77 ((extractStridedSlice S131072x3 ![0, 0] · slices_S131072x7_S131072x3_0_0) : (⟨S131072x7, .f32⟩ : BufTy).Contents (Elt F) → (⟨S131072x3, .f32⟩ : BufTy).Contents (Elt F)),
    StableHlo.binary main_v71 main_v77 main_v78 (subf : (⟨S131072x3, .f32⟩ : BufTy).Contents (Elt F) → (⟨S131072x3, .f32⟩ : BufTy).Contents (Elt F) → (⟨S131072x3, .f32⟩ : BufTy).Contents (Elt F)),
    StableHlo.unary main_v76 main_v79 ((extractStridedSlice S131072x3 ![0, 0] · slices_S131072x4_S131072x3_0_0) : (⟨S131072x4, .f32⟩ : BufTy).Contents (Elt F) → (⟨S131072x3, .f32⟩ : BufTy).Contents (Elt F)),
    StableHlo.unary main_v76 main_v80 ((extractStridedSlice S131072x1 ![0, 3] · slices_S131072x4_S131072x1_0_3) : (⟨S131072x4, .f32⟩ : BufTy).Contents (Elt F) → (⟨S131072x1, .f32⟩ : BufTy).Contents (Elt F))] ++ crossOps (.of main_v79) (.of main_v78) main_call3 ++ [
    StableHlo.nullary main_cst_8 (constant S_ .f32 0x40000000#32),
    StableHlo.unary main_cst_8 main_v82 (broadcastInDim S131072x3 ![] bcast_S_S131072x3 : (⟨S_, .f32⟩ : BufTy).Contents (Elt F) → (⟨S131072x3, .f32⟩ : BufTy).Contents (Elt F)),
    StableHlo.binary main_v82 main_v81 main_v83 (mulf : (⟨S131072x3, .f32⟩ : BufTy).Contents (Elt F) → (⟨S131072x3, .f32⟩ : BufTy).Contents (Elt F) → (⟨S131072x3, .f32⟩ : BufTy).Contents (Elt F)),
    StableHlo.unary main_v80 main_v84 (broadcastInDim S131072x3 ![0, 1] bcast_S131072x1_S131072x3_0_1 : (⟨S131072x1, .f32⟩ : BufTy).Contents (Elt F) → (⟨S131072x3, .f32⟩ : BufTy).Contents (Elt F)),
    StableHlo.binary main_v84 main_v83 main_v85 (mulf : (⟨S131072x3, .f32⟩ : BufTy).Contents (Elt F) → (⟨S131072x3, .f32⟩ : BufTy).Contents (Elt F) → (⟨S131072x3, .f32⟩ : BufTy).Contents (Elt F)),
    StableHlo.binary main_v78 main_v85 main_v86 (addf : (⟨S131072x3, .f32⟩ : BufTy).Contents (Elt F) → (⟨S131072x3, .f32⟩ : BufTy).Contents (Elt F) → (⟨S131072x3, .f32⟩ : BufTy).Contents (Elt F))] ++ crossOps (.of main_v79) (.of main_v83) main_call4 ++ [
    StableHlo.binary main_v86 main_v87 main_v88 (addf : (⟨S131072x3, .f32⟩ : BufTy).Contents (Elt F) → (⟨S131072x3, .f32⟩ : BufTy).Contents (Elt F) → (⟨S131072x3, .f32⟩ : BufTy).Contents (Elt F))]

/-- Range and azimuth of the carried points, minus the measurement, times the scale. -/
def resultOps : List (HloOp τ sig (Elt F)) :=
  [
    StableHlo.binary main_v88 main_v88 main_v89 (mulf : (⟨S131072x3, .f32⟩ : BufTy).Contents (Elt F) → (⟨S131072x3, .f32⟩ : BufTy).Contents (Elt F) → (⟨S131072x3, .f32⟩ : BufTy).Contents (Elt F)),
    StableHlo.nullary main_cst_9 (constant S_ .f32 0x00000000#32),
    StableHlo.binary main_v89 main_cst_9 main_v90 ((fun x v => Host.reduceAdd x v reducesTo_S131072x3_S131072_d1 h_S_) : (⟨S131072x3, .f32⟩ : BufTy).Contents (Elt F) → (⟨S_, .f32⟩ : BufTy).Contents (Elt F) → (⟨S131072, .f32⟩ : BufTy).Contents (Elt F)),
    StableHlo.unary main_v90 main_v91 (Host.sqrt : (⟨S131072, .f32⟩ : BufTy).Contents (Elt F) → (⟨S131072, .f32⟩ : BufTy).Contents (Elt F)),
    StableHlo.unary main_v88 main_v92 ((extractStridedSlice S131072x1 ![0, 1] · slices_S131072x3_S131072x1_0_1) : (⟨S131072x3, .f32⟩ : BufTy).Contents (Elt F) → (⟨S131072x1, .f32⟩ : BufTy).Contents (Elt F)),
    StableHlo.reshape main_v92 main_v93 (rfl : (.f32 : EltTy) = .f32) shapeCasts_S131072x1_S131072,
    StableHlo.unary main_v88 main_v94 ((extractStridedSlice S131072x1 ![0, 0] · slices_S131072x3_S131072x1_0_0) : (⟨S131072x3, .f32⟩ : BufTy).Contents (Elt F) → (⟨S131072x1, .f32⟩ : BufTy).Contents (Elt F)),
    StableHlo.reshape main_v94 main_v95 (rfl : (.f32 : EltTy) = .f32) shapeCasts_S131072x1_S131072,
    StableHlo.binary main_v93 main_v95 main_v96 (Host.atan2 : (⟨S131072, .f32⟩ : BufTy).Contents (Elt F) → (⟨S131072, .f32⟩ : BufTy).Contents (Elt F) → (⟨S131072, .f32⟩ : BufTy).Contents (Elt F)),
    StableHlo.unary main_v88 main_v97 ((extractStridedSlice S131072x1 ![0, 2] · slices_S131072x3_S131072x1_0_2) : (⟨S131072x3, .f32⟩ : BufTy).Contents (Elt F) → (⟨S131072x1, .f32⟩ : BufTy).Contents (Elt F)),
    StableHlo.reshape main_v97 main_v98 (rfl : (.f32 : EltTy) = .f32) shapeCasts_S131072x1_S131072,
    StableHlo.nullary main_cst_10 (constant S_ .f32 0x322BCC77#32),
    StableHlo.unary main_cst_10 main_v99 (broadcastInDim S131072 ![] bcast_S_S131072 : (⟨S_, .f32⟩ : BufTy).Contents (Elt F) → (⟨S131072, .f32⟩ : BufTy).Contents (Elt F)),
    StableHlo.binary main_v91 main_v99 main_v100 (maximumf : (⟨S131072, .f32⟩ : BufTy).Contents (Elt F) → (⟨S131072, .f32⟩ : BufTy).Contents (Elt F) → (⟨S131072, .f32⟩ : BufTy).Contents (Elt F)),
    StableHlo.binary main_v98 main_v100 main_v101 (Host.divf : (⟨S131072, .f32⟩ : BufTy).Contents (Elt F) → (⟨S131072, .f32⟩ : BufTy).Contents (Elt F) → (⟨S131072, .f32⟩ : BufTy).Contents (Elt F)),
    StableHlo.nullary main_cst_11 (constant S_ .f32 0xBF800000#32),
    StableHlo.nullary main_cst_12 (constant S_ .f32 0x3F800000#32)] ++ clipOps (.of main_v101) (.of main_cst_11) (.of main_cst_12) main_call5 ++ [
    StableHlo.unary main_v102 main_v103 (Host.asin : (⟨S131072, .f32⟩ : BufTy).Contents (Elt F) → (⟨S131072, .f32⟩ : BufTy).Contents (Elt F)),
    StableHlo.unary main_v91 main_v104 (broadcastInDim S131072x1 ![0] bcast_S131072_S131072x1_0 : (⟨S131072, .f32⟩ : BufTy).Contents (Elt F) → (⟨S131072x1, .f32⟩ : BufTy).Contents (Elt F)),
    StableHlo.unary main_v96 main_v105 (broadcastInDim S131072x1 ![0] bcast_S131072_S131072x1_0 : (⟨S131072, .f32⟩ : BufTy).Contents (Elt F) → (⟨S131072x1, .f32⟩ : BufTy).Contents (Elt F)),
    StableHlo.unary main_v103 main_v106 (broadcastInDim S131072x1 ![0] bcast_S131072_S131072x1_0 : (⟨S131072, .f32⟩ : BufTy).Contents (Elt F) → (⟨S131072x1, .f32⟩ : BufTy).Contents (Elt F)),
    StableHlo.nary ![main_v104, main_v105, main_v106] main_v107 (fun u => (concatenate S131072x3 1 [⟨S131072x1, (u 0 : (⟨S131072x1, .f32⟩ : BufTy).Contents (Elt F))⟩, ⟨S131072x1, (u 1 : (⟨S131072x1, .f32⟩ : BufTy).Contents (Elt F))⟩, ⟨S131072x1, (u 2 : (⟨S131072x1, .f32⟩ : BufTy).Contents (Elt F))⟩] concatenates_S131072x1_S131072x1_S131072x1_S131072x3_d1 : (⟨S131072x3, .f32⟩ : BufTy).Contents (Elt F))),
    StableHlo.unary main_v107 main_v108 (broadcastInDim S1x131072x3 ![1, 2] bcast_S131072x3_S1x131072x3_1_2 : (⟨S131072x3, .f32⟩ : BufTy).Contents (Elt F) → (⟨S1x131072x3, .f32⟩ : BufTy).Contents (Elt F)),
    StableHlo.unary main_v108 main_v109 ((extractStridedSlice S1x131072x2 ![0, 0, 0] · slices_S1x131072x3_S1x131072x2_0_0_0) : (⟨S1x131072x3, .f32⟩ : BufTy).Contents (Elt F) → (⟨S1x131072x2, .f32⟩ : BufTy).Contents (Elt F)),
    StableHlo.binary main_v109 main_arg3 main_v110 (subf : (⟨S1x131072x2, .f32⟩ : BufTy).Contents (Elt F) → (⟨S1x131072x2, .f32⟩ : BufTy).Contents (Elt F) → (⟨S1x131072x2, .f32⟩ : BufTy).Contents (Elt F)),
    StableHlo.unary main_arg4 main_v111 (broadcastInDim S1x131072x2 ![0, 1, 2] bcast_S1x1x2_S1x131072x2_0_1_2 : (⟨S1x1x2, .f32⟩ : BufTy).Contents (Elt F) → (⟨S1x131072x2, .f32⟩ : BufTy).Contents (Elt F)),
    StableHlo.binary main_v110 main_v111 main_v112 (mulf : (⟨S1x131072x2, .f32⟩ : BufTy).Contents (Elt F) → (⟨S1x131072x2, .f32⟩ : BufTy).Contents (Elt F) → (⟨S1x131072x2, .f32⟩ : BufTy).Contents (Elt F)),
    StableHlo.reshape main_v112 main_v113 (rfl : (.f32 : EltTy) = .f32) shapeCasts_S1x131072x2_S1x262144]

/-- The whole list: the six stretches in order. -/
def refOps : List (HloOp τ sig (Elt F)) :=
  poseOps ++ (gatherOps ++ (rayOps ++ (forwardOps ++ (backwardOps ++ resultOps))))

set_option maxRecDepth 65536 in
set_option maxHeartbeats 4000000 in
/-- The reference is the straight line of those operations. -/
theorem main_isSeq (c : Dev nD) : StableHlo.IsSeq (main (F := F) c) refOps := by
  obtain ⟨ops, h, e⟩ : ∃ ops, StableHlo.IsSeq (main (F := F) c) ops ∧ ops = refOps :=
    ⟨_, by hlo_seq, rfl⟩
  exact e ▸ h

variable (m : (ℓ : Loc nD τ sig) → Buf (Elt F) ℓ) (ρ : Dev nD → PrngReg)

set_option maxRecDepth 65536 in
set_option maxHeartbeats 4000000 in
/-- The run: every buffer ends at what the listed operations leave there, and every semaphore counter is zero
    (the reference has no semaphore). -/
theorem run : θ_run (defs (F := F)) (onTc (τ := τ) (main (F := F))) ⟨m, fun _ => 0, ρ⟩ fun r =>
    (∀ (c : Dev nD) (b : Ref sig .tc),
      r.2.mem ((c.tc : Thread nD τ).loc b) = StableHlo.after refOps (StableHlo.launchContents m c) (Proc.devRef .tc b))
    ∧ r.2.sem = fun _ => 0 :=
  θ_run_mono (StableHlo.run_hlo defs main main_isSeq (by decide) (by decide)
      (by simp [refOps, poseOps, gatherOps, rayOps, forwardOps, backwardOps, resultOps, normOps, crossOps, clipOps])
      (by intro _ h; (repeat (cases h with | head => rfl | tail _ h => ?_)); exact nomatch h) m ρ)
    fun r h => ⟨h, sem_eq_zero_of_no_sems (by decide) r.2⟩

end Cert.RefRun
-- ==== Proof.RefValue.lean ====
module

public import proofs.«01_k».proof.Proof.RefOps
public import proofs.«01_k».proof.Proof.Edge
public import proofs.«01_k».proof.Proof.Gather
public import Idealize.ShloMosaic.Lib.StableHlo.ReadAt
public import Idealize.ShloMosaic.Lib.Pointwise

/-!
# What the reference leaves in its result

Each stretch of the reference read at one element, from whatever contents it starts on; then the six
stretches in a row.  Entry `n` of the result belongs to edge `n / 2`, its range for even `n` and its
azimuth for odd `n`.
-/

@[expose] public section

set_option maxRecDepth 65536
set_option maxHeartbeats 4000000

noncomputable section

open Idealize.ShloMosaic Idealize.ShloMosaic.TcCoe Idealize.SL.Sem

namespace Cert.RefValue

open Cert.ReferenceIdeal Cert.RefRun

variable (V : Valuation τ sig (Elt Ideal))

/-! ## The stretches -/

/-- Every frame's pose is normalised by a quotient. -/
theorem pose_at (e : Fin 512) (k : Fin 7) :
    StableHlo.after (poseOps (F := Ideal)) V (Proc.devRef .tc main_v7) (ix3 0 e k)
      = Edge.unitByDiv (fun j => V (Proc.devRef .tc main_arg0) (ix3 0 e j)) k := by
  fin_cases k <;> (after_reads_at; repeat after_reads_at)
  all_goals first
    | rfl
    | (simp only [Fin.sum_univ_four]; rfl)

/-- The source poses are rows of the normalised poses. -/
theorem source_at (e : Fin 131072) (k : Fin 7) :
    StableHlo.after (gatherOps (F := Ideal)) V (Proc.devRef .tc main_v37) (ix2 e k)
      = Gather.pose (V (Proc.devRef .tc main_v7)) (V (Proc.devRef .tc main_arg5) (ix1 e)) k := by
  after_reads_at; repeat after_reads_at
  erw [Gather.middle_apply (N := 512) (by decide)]
  pointwise
  rfl

/-- The target poses are rows of the normalised poses. -/
theorem target_at (e : Fin 131072) (k : Fin 7) :
    StableHlo.after (gatherOps (F := Ideal)) V (Proc.devRef .tc main_v38) (ix2 e k)
      = Gather.pose (V (Proc.devRef .tc main_v7)) (V (Proc.devRef .tc main_arg6) (ix1 e)) k := by
  after_reads_at; repeat after_reads_at
  erw [Gather.middle_apply (N := 512) (by decide)]
  pointwise
  rfl

/-- The polar points are rows of the two tables of points. -/
theorem point_at (e : Fin 131072) (j : Fin 3) :
    StableHlo.after (gatherOps (F := Ideal)) V (Proc.devRef .tc main_v39) (ix2 e j)
      = Gather.point (V (Proc.devRef .tc main_arg1)) (V (Proc.devRef .tc main_arg2))
          (V (Proc.devRef .tc main_arg7) (ix1 e)) j := by
  fin_cases j <;> (after_reads_at; repeat after_reads_at)
  all_goals
    erw [Gather.middle_apply (N := 131072) (by decide)]
    pointwise
    rfl

/-- The polar points become Cartesian. -/
theorem ray_at (e : Fin 131072) (j : Fin 3) :
    StableHlo.after (rayOps (F := Ideal)) V (Proc.devRef .tc main_v58) (ix2 e j)
      = Edge.ray (fun i => V (Proc.devRef .tc main_v39) (ix2 e i)) j := by
  fin_cases j <;> (after_reads_at; repeat after_reads_at)
  all_goals rfl

/-- The points are moved by the source poses. -/
theorem world_at (e : Fin 131072) (j : Fin 3) :
    StableHlo.after (forwardOps (F := Ideal)) V (Proc.devRef .tc main_v71) (ix2 e j)
      = Edge.world (fun k => V (Proc.devRef .tc main_v37) (ix2 e k))
          (fun i => V (Proc.devRef .tc main_v58) (ix2 e i)) j := by
  fin_cases j <;> (after_reads_at; repeat after_reads_at)
  all_goals rfl

/-- The points are moved back by the conjugates of the target poses. -/
theorem local_at (e : Fin 131072) (j : Fin 3) :
    StableHlo.after (backwardOps (F := Ideal)) V (Proc.devRef .tc main_v88) (ix2 e j)
      = Edge.localByConj (fun k => V (Proc.devRef .tc main_v38) (ix2 e k))
          (Edge.offset (fun k => V (Proc.devRef .tc main_v38) (ix2 e k))
            (fun i => V (Proc.devRef .tc main_v71) (ix2 e i))) j := by
  fin_cases j <;> (after_reads_at; repeat after_reads_at)
  all_goals rfl

/-- The edge of an entry of the result. -/
abbrev edge (n : Fin 262144) : Fin 131072 := ⟨n.val / 2, by omega⟩
/-- Whether an entry of the result is a range or an azimuth. -/
abbrev part (n : Fin 262144) : Fin 2 := ⟨n.val % 2, by omega⟩

/-- The result: range or azimuth, minus the measurement, times the scale. -/
theorem result_at (n : Fin 262144) :
    StableHlo.after (resultOps (F := Ideal)) V (Proc.devRef .tc main_v113) (ix2 0 n)
      = (Edge.polar (fun j => V (Proc.devRef .tc main_v88) (ix2 (edge n) j)) (part n)
          - V (Proc.devRef .tc main_arg3) (ix3 0 (edge n) (part n)))
        * V (Proc.devRef .tc main_arg4) (ix3 0 0 (part n)) := by
  after_reads_at; repeat after_reads_at
  rcases Nat.mod_two_eq_zero_or_one n.val with h | h
  · have hp : part n = 0 := Fin.ext h
    rw [dif_pos (by omega), Fin.sum_univ_three]
    refine congrArg (fun z : EReal => (z - V (Proc.devRef .tc main_arg3) (ix3 0 (edge n) (part n)))
      * V (Proc.devRef .tc main_arg4) (ix3 0 0 (part n))) ?_
    rw [hp]
    rfl
  · have hp : part n = 1 := Fin.ext h
    rw [dif_neg (by omega), dif_pos (by omega)]
    refine congrArg (fun z : EReal => (z - V (Proc.devRef .tc main_arg3) (ix3 0 (edge n) (part n)))
      * V (Proc.devRef .tc main_arg4) (ix3 0 0 (part n))) ?_
    rw [hp]
    rfl

/-! ## What a stretch leaves alone -/

/-- Normalising leaves the arguments. -/
theorem pose_keeps :
    StableHlo.after (poseOps (F := Ideal)) V (Proc.devRef .tc main_arg1) = V (Proc.devRef .tc main_arg1)
    ∧ StableHlo.after (poseOps (F := Ideal)) V (Proc.devRef .tc main_arg2) = V (Proc.devRef .tc main_arg2)
    ∧ StableHlo.after (poseOps (F := Ideal)) V (Proc.devRef .tc main_arg3) = V (Proc.devRef .tc main_arg3)
    ∧ StableHlo.after (poseOps (F := Ideal)) V (Proc.devRef .tc main_arg4) = V (Proc.devRef .tc main_arg4)
    ∧ StableHlo.after (poseOps (F := Ideal)) V (Proc.devRef .tc main_arg5) = V (Proc.devRef .tc main_arg5)
    ∧ StableHlo.after (poseOps (F := Ideal)) V (Proc.devRef .tc main_arg6) = V (Proc.devRef .tc main_arg6)
    ∧ StableHlo.after (poseOps (F := Ideal)) V (Proc.devRef .tc main_arg7) = V (Proc.devRef .tc main_arg7) := by
  refine ⟨?_, ?_, ?_, ?_, ?_, ?_, ?_⟩ <;> after_reads_simp

/-- Fetching leaves the measurements and the scales. -/
theorem gather_keeps :
    StableHlo.after (gatherOps (F := Ideal)) V (Proc.devRef .tc main_arg3) = V (Proc.devRef .tc main_arg3)
    ∧ StableHlo.after (gatherOps (F := Ideal)) V (Proc.devRef .tc main_arg4) = V (Proc.devRef .tc main_arg4) := by
  refine ⟨?_, ?_⟩ <;> after_reads_simp

/-- The change of coordinates leaves the fetched poses, the measurements and the scales. -/
theorem ray_keeps :
    StableHlo.after (rayOps (F := Ideal)) V (Proc.devRef .tc main_v37) = V (Proc.devRef .tc main_v37)
    ∧ StableHlo.after (rayOps (F := Ideal)) V (Proc.devRef .tc main_v38) = V (Proc.devRef .tc main_v38)
    ∧ StableHlo.after (rayOps (F := Ideal)) V (Proc.devRef .tc main_arg3) = V (Proc.devRef .tc main_arg3)
    ∧ StableHlo.after (rayOps (F := Ideal)) V (Proc.devRef .tc main_arg4) = V (Proc.devRef .tc main_arg4) := by
  refine ⟨?_, ?_, ?_, ?_⟩ <;> after_reads_simp

/-- Moving the points leaves the target poses, the measurements and the scales. -/
theorem forward_keeps :
    StableHlo.after (forwardOps (F := Ideal)) V (Proc.devRef .tc main_v38) = V (Proc.devRef .tc main_v38)
    ∧ StableHlo.after (forwardOps (F := Ideal)) V (Proc.devRef .tc main_arg3) = V (Proc.devRef .tc main_arg3)
    ∧ StableHlo.after (forwardOps (F := Ideal)) V (Proc.devRef .tc main_arg4) = V (Proc.devRef .tc main_arg4) := by
  refine ⟨?_, ?_, ?_⟩ <;> after_reads_simp

/-- Moving the points back leaves the measurements and the scales. -/
theorem backward_keeps :
    StableHlo.after (backwardOps (F := Ideal)) V (Proc.devRef .tc main_arg3) = V (Proc.devRef .tc main_arg3)
    ∧ StableHlo.after (backwardOps (F := Ideal)) V (Proc.devRef .tc main_arg4) = V (Proc.devRef .tc main_arg4) := by
  refine ⟨?_, ?_⟩ <;> after_reads_simp

/-! ## All of it -/

/-- Two stretches in a row. -/
theorem after_two (l l' : List (HloOp τ sig (Elt Ideal))) (W : Valuation τ sig (Elt Ideal)) :
    StableHlo.after (l ++ l') W = StableHlo.after l' (StableHlo.after l W) := by
  induction l generalizing W with
  | nil => rfl
  | cons op ops ih => exact ih _

/-- Entry `n` of the result is the residual of edge `n / 2`. -/
theorem value_at (n : Fin 262144) :
    StableHlo.after (refOps (F := Ideal)) V (Proc.devRef .tc main_v113) (ix2 0 n)
      = Edge.residualByConj
          (Gather.pose (V (Proc.devRef .tc main_arg0)) (V (Proc.devRef .tc main_arg5) (ix1 (edge n))))
          (Gather.pose (V (Proc.devRef .tc main_arg0)) (V (Proc.devRef .tc main_arg6) (ix1 (edge n))))
          (Gather.point (V (Proc.devRef .tc main_arg1)) (V (Proc.devRef .tc main_arg2))
            (V (Proc.devRef .tc main_arg7) (ix1 (edge n))))
          (part n) (V (Proc.devRef .tc main_arg3) (ix3 0 (edge n) (part n)))
          (V (Proc.devRef .tc main_arg4) (ix3 0 0 (part n))) := by
  unfold refOps Edge.residualByConj
  simp only [after_two]
  rw [result_at]
  rw [funext (local_at _ (edge n)), funext (world_at _ (edge n)), funext (ray_at _ (edge n))]
  rw [(backward_keeps _).1, (backward_keeps _).2, (forward_keeps _).1, (forward_keeps _).2.1, (forward_keeps _).2.2,
    (ray_keeps _).1, (ray_keeps _).2.1, (ray_keeps _).2.2.1, (ray_keeps _).2.2.2]
  rw [funext (source_at _ (edge n)), funext (target_at _ (edge n)), funext (point_at _ (edge n))]
  rw [(gather_keeps _).1, (gather_keeps _).2]
  rw [(pose_keeps V).1, (pose_keeps V).2.1, (pose_keeps V).2.2.1, (pose_keeps V).2.2.2.1,
    (pose_keeps V).2.2.2.2.1, (pose_keeps V).2.2.2.2.2.1, (pose_keeps V).2.2.2.2.2.2]
  have h (i : BitVec 32) : Gather.pose (StableHlo.after (poseOps (F := Ideal)) V (Proc.devRef .tc main_v7)) i
      = Edge.unitByDiv (Gather.pose (V (Proc.devRef .tc main_arg0)) i) := funext (pose_at V _)
  rw [h, h]

end Cert.RefValue
-- ==== Proof.lean ====
/- The proof of the certificate's claims: the kernel, its reading over the extended reals and the reference run
   with their arguments unchanged, and over the extended reals the kernel's residuals are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefValue
public import Idealize.ShloMosaic.Adequacy
public import Idealize.ShloMosaic.Init

@[expose] public section

set_option maxRecDepth 65536
set_option maxHeartbeats 4000000

noncomputable section

open Idealize.ShloMosaic Idealize.ShloMosaic.TcCoe Idealize.SL.Sem

namespace Cert.RefRun

open Cert.ReferenceIdeal

/-- The reference's lines write none of its arguments. -/
theorem keeps (V : Valuation τ sig (Elt Ideal)) :
    StableHlo.after (refOps (F := Ideal)) V (Proc.devRef .tc main_arg0) = V (Proc.devRef .tc main_arg0)
    ∧ StableHlo.after (refOps (F := Ideal)) V (Proc.devRef .tc main_arg1) = V (Proc.devRef .tc main_arg1)
    ∧ StableHlo.after (refOps (F := Ideal)) V (Proc.devRef .tc main_arg2) = V (Proc.devRef .tc main_arg2)
    ∧ StableHlo.after (refOps (F := Ideal)) V (Proc.devRef .tc main_arg3) = V (Proc.devRef .tc main_arg3)
    ∧ StableHlo.after (refOps (F := Ideal)) V (Proc.devRef .tc main_arg4) = V (Proc.devRef .tc main_arg4)
    ∧ StableHlo.after (refOps (F := Ideal)) V (Proc.devRef .tc main_arg5) = V (Proc.devRef .tc main_arg5)
    ∧ StableHlo.after (refOps (F := Ideal)) V (Proc.devRef .tc main_arg6) = V (Proc.devRef .tc main_arg6)
    ∧ StableHlo.after (refOps (F := Ideal)) V (Proc.devRef .tc main_arg7) = V (Proc.devRef .tc main_arg7) := by
  unfold refOps
  simp only [RefValue.after_two]
  refine ⟨?_, ?_, ?_, ?_, ?_, ?_, ?_, ?_⟩ <;> after_reads_simp

variable (m : (ℓ : Loc nD τ sig) → Buf (Elt Ideal) ℓ) (ρ : Dev nD → PrngReg)

/-- The reference runs: its arguments end unchanged and its counters end at zero. -/
theorem unchanged : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    have k := keeps (StableHlo.launchContents m c)
    ⟨(h.1 c _).trans k.1, (h.1 c _).trans k.2.1, (h.1 c _).trans k.2.2.1, (h.1 c _).trans k.2.2.2.1,
      (h.1 c _).trans k.2.2.2.2.1, (h.1 c _).trans k.2.2.2.2.2.1, (h.1 c _).trans k.2.2.2.2.2.2.1,
      (h.1 c _).trans k.2.2.2.2.2.2.2⟩, h.2⟩) (run m ρ)

end Cert.RefRun

namespace Cert.Proof

/-- Over arguments that agree, the reference's entry is the kernel's. -/
theorem entry (W : Valuation Cert.KernelIdeal.τ Cert.KernelIdeal.sig (Elt Ideal))
    (V : Valuation Cert.ReferenceIdeal.τ Cert.ReferenceIdeal.sig (Elt Ideal))
    (h0 : V (Proc.devRef .tc Cert.ReferenceIdeal.main_arg0) = W (Proc.devRef .tc Cert.KernelIdeal.main_arg0))
    (h1 : V (Proc.devRef .tc Cert.ReferenceIdeal.main_arg1) = W (Proc.devRef .tc Cert.KernelIdeal.main_arg1))
    (h2 : V (Proc.devRef .tc Cert.ReferenceIdeal.main_arg2) = W (Proc.devRef .tc Cert.KernelIdeal.main_arg2))
    (h3 : V (Proc.devRef .tc Cert.ReferenceIdeal.main_arg3) = W (Proc.devRef .tc Cert.KernelIdeal.main_arg3))
    (h4 : V (Proc.devRef .tc Cert.ReferenceIdeal.main_arg4) = W (Proc.devRef .tc Cert.KernelIdeal.main_arg4))
    (h5 : V (Proc.devRef .tc Cert.ReferenceIdeal.main_arg5) = W (Proc.devRef .tc Cert.KernelIdeal.main_arg5))
    (h6 : V (Proc.devRef .tc Cert.ReferenceIdeal.main_arg6) = W (Proc.devRef .tc Cert.KernelIdeal.main_arg6))
    (h7 : V (Proc.devRef .tc Cert.ReferenceIdeal.main_arg7) = W (Proc.devRef .tc Cert.KernelIdeal.main_arg7))
    (n : Fin 262144) :
    StableHlo.after (RefRun.refOps (F := Ideal)) V (Proc.devRef .tc Cert.ReferenceIdeal.main_v113) (ix2 0 n)
      = KernelRun.value W n := by
  rw [RefValue.value_at, h0, h1, h2, h3, h4, h5, h6, h7, ← Edge.residual_eq]
  rfl

/-- The kernel and the reference compute the same residuals. -/
theorem agree : Cert.algebraic_KernelIdeal_ReferenceIdeal (hKernelIdeal := Cert.KernelIdeal.Gen.facts)
    (hReferenceIdeal := Cert.ReferenceIdeal.Gen.facts) := by
  intro m g m' g' _ hagree
  refine ⟨_, KernelRun.run m g, (θ_run _ _ _).mono (fun _ h c => ⟨?_, h.2.1 c⟩)
    (θ_run_and (RefRun.run m' g') (RefRun.unchanged m' g'))⟩
  obtain ⟨h0, h1, h2, h3, h4, h5, h6, h7⟩ := hagree c
  refine (h.1.1 c _).trans (funext fun i => ?_)
  have e : i = ix2 0 (i 1) := by
    funext a
    match a with
    | ⟨0, _⟩ => exact Subsingleton.elim (α := Fin 1) _ _
    | ⟨1, _⟩ => rfl
  rw [e]
  exact entry (StableHlo.launchContents m c) (StableHlo.launchContents m' c) h0 h1 h2 h3 h4 h5 h6 h7 _

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.RefRun.unchanged m ρ, trivial, agree⟩

end Cert.Proof

end
